-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S1x4096 : Shape := ⟨2, ![1, 4096]⟩
abbrev S1x4096x10240 : Shape := ⟨3, ![1, 4096, 10240]⟩
abbrev S1x3x2048 : Shape := ⟨3, ![1, 3, 2048]⟩
abbrev S1x16x128x128 : Shape := ⟨4, ![1, 16, 128, 128]⟩
abbrev S1x16x128 : Shape := ⟨3, ![1, 16, 128]⟩
abbrev S1x2048 : Shape := ⟨2, ![1, 2048]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S4096 : Shape := ⟨1, ![4096]⟩
abbrev S8192x4096 : Shape := ⟨2, ![8192, 4096]⟩
abbrev S4096x10240 : Shape := ⟨2, ![4096, 10240]⟩
abbrev S512x4096 : Shape := ⟨2, ![512, 4096]⟩
abbrev S512 : Shape := ⟨1, ![512]⟩
abbrev S512x1 : Shape := ⟨2, ![512, 1]⟩
abbrev S3x2048 : Shape := ⟨2, ![3, 2048]⟩
abbrev S2048 : Shape := ⟨1, ![2048]⟩
abbrev S8192x2048 : Shape := ⟨2, ![8192, 2048]⟩
abbrev S4x8192x128 : Shape := ⟨3, ![4, 8192, 128]⟩
abbrev S4096x512 : Shape := ⟨2, ![4096, 512]⟩
abbrev S3x512 : Shape := ⟨2, ![3, 512]⟩
abbrev S1x512 : Shape := ⟨2, ![1, 512]⟩
abbrev S512x512 : Shape := ⟨2, ![512, 512]⟩
abbrev S1x512x128 : Shape := ⟨3, ![1, 512, 128]⟩
abbrev S520x512 : Shape := ⟨2, ![520, 512]⟩
abbrev S8x512 : Shape := ⟨2, ![8, 512]⟩
abbrev S512x128 : Shape := ⟨2, ![512, 128]⟩
abbrev S16x128x128 : Shape := ⟨3, ![16, 128, 128]⟩
abbrev S16x128 : Shape := ⟨2, ![16, 128]⟩
abbrev S16x128x1 : Shape := ⟨3, ![16, 128, 1]⟩
abbrev S4x128x128 : Shape := ⟨3, ![4, 128, 128]⟩
abbrev S128x128 : Shape := ⟨2, ![128, 128]⟩
abbrev S1x128x128 : Shape := ⟨3, ![1, 128, 128]⟩
abbrev S128x512 : Shape := ⟨2, ![128, 512]⟩
abbrev S4096x4096 : Shape := ⟨2, ![4096, 4096]⟩
abbrev S512x2048 : Shape := ⟨2, ![512, 2048]⟩
abbrev S2048x1024 : Shape := ⟨2, ![2048, 1024]⟩
abbrev S4x512x128 : Shape := ⟨3, ![4, 512, 128]⟩
abbrev S512x1024 : Shape := ⟨2, ![512, 1024]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩
abbrev S16384x4096 : Shape := ⟨2, ![16384, 4096]⟩
abbrev S1024x2048 : Shape := ⟨2, ![1024, 2048]⟩

abbrev nBuf : Space → Nat
  | .hbm => 47
  | .vmem => 79
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x10240, .f32⟩
  | .hbm, ⟨3, _⟩ => ⟨S1x3x2048, .f32⟩
  | .hbm, ⟨4, _⟩ => ⟨S1x16x128x128, .f32⟩
  | .hbm, ⟨5, _⟩ => ⟨S1x16x128, .f32⟩
  | .hbm, ⟨6, _⟩ => ⟨S1x2048, .f32⟩
  | .hbm, ⟨7, _⟩ => ⟨S1x2048, .f32⟩
  | .hbm, ⟨8, _⟩ => ⟨S1x4096x4096, .f32⟩
  | .hbm, ⟨9, _⟩ => ⟨S1x4096, .f32⟩
  | .hbm, ⟨10, _⟩ => ⟨S1x4096x16384, .f32⟩
  | .hbm, ⟨11, _⟩ => ⟨S1x16384x4096, .f32⟩
  | .hbm, ⟨12, _⟩ => ⟨S4096, .f32⟩
  | .hbm, ⟨13, _⟩ => ⟨S8192x4096, .f32⟩
  | .hbm, ⟨14, _⟩ => ⟨S4096x10240, .f32⟩
  | .hbm, ⟨15, _⟩ => ⟨S4096x10240, .bf16⟩
  | .hbm, ⟨16, _⟩ => ⟨S4096, .f32⟩
  | .hbm, ⟨17, _⟩ => ⟨S1x4096, .f32⟩
  | .hbm, ⟨18, _⟩ => ⟨S8192x4096, .bf16⟩
  | .hbm, ⟨19, _⟩ => ⟨S3x2048, .f32⟩
  | .hbm, ⟨20, _⟩ => ⟨S2048, .f32⟩
  | .hbm, ⟨21, _⟩ => ⟨S1x2048, .f32⟩
  | .hbm, ⟨22, _⟩ => ⟨S8192x2048, .bf16⟩
  | .hbm, ⟨23, _⟩ => ⟨S4x8192x128, .f32⟩
  | .hbm, ⟨24, _⟩ => ⟨S16x128x128, .f32⟩
  | .hbm, ⟨25, _⟩ => ⟨S16x128, .f32⟩
  | .hbm, ⟨26, _⟩ => ⟨S2048, .f32⟩
  | .hbm, ⟨27, _⟩ => ⟨S16x128x1, .f32⟩
  | .hbm, ⟨28, _⟩ => ⟨S16x128x128, .f32⟩
  | .hbm, ⟨29, _⟩ => ⟨S1x2048, .f32⟩
  | .hbm, ⟨30, _⟩ => ⟨S8192x2048, .bf16⟩
  | .hbm, ⟨31, _⟩ => ⟨S4x8192x128, .f32⟩
  | .hbm, ⟨32, _⟩ => ⟨S4096x4096, .f32⟩
  | .hbm, ⟨33, _⟩ => ⟨S4096x4096, .bf16⟩
  | .hbm, ⟨34, _⟩ => ⟨S8192x4096, .f32⟩
  | .hbm, ⟨35, _⟩ => ⟨S4096, .f32⟩
  | .hbm, ⟨36, _⟩ => ⟨S1x4096, .f32⟩
  | .hbm, ⟨37, _⟩ => ⟨S8192x4096, .bf16⟩
  | .hbm, ⟨38, _⟩ => ⟨S4096x16384, .f32⟩
  | .hbm, ⟨39, _⟩ => ⟨S4096x16384, .bf16⟩
  | .hbm, ⟨40, _⟩ => ⟨S8192x16384, .bf16⟩
  | .hbm, ⟨41, _⟩ => ⟨S16384x4096, .f32⟩
  | .hbm, ⟨42, _⟩ => ⟨S16384x4096, .bf16⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S512x512, .bf16⟩
  | .local _ .vmem, ⟨19, _⟩ => ⟨S1x512x128, .f32⟩
  | .local _ .vmem, ⟨20, _⟩ => ⟨S1x512x128, .f32⟩
  | .local _ .vmem, ⟨21, _⟩ => ⟨S520x512, .f32⟩
  | .local _ .vmem, ⟨22, _⟩ => ⟨S512x4096, .bf16⟩
  | .local _ .vmem, ⟨23, _⟩ => ⟨S512x4096, .bf16⟩
  | .local _ .vmem, ⟨24, _⟩ => ⟨S4096x512, .bf16⟩
  | .local _ .vmem, ⟨25, _⟩ => ⟨S4096x512, .bf16⟩
  | .local _ .vmem, ⟨26, _⟩ => ⟨S4096x512, .bf16⟩
  | .local _ .vmem, ⟨27, _⟩ => ⟨S4096x512, .bf16⟩
  | .local _ .vmem, ⟨28, _⟩ => ⟨S4x128x128, .f32⟩
  | .local _ .vmem, ⟨29, _⟩ => ⟨S4x128x128, .f32⟩
  | .local _ .vmem, ⟨30, _⟩ => ⟨S4x128x128, .f32⟩
  | .local _ .vmem, ⟨31, _⟩ => ⟨S4x128x128, .f32⟩
  | .local _ .vmem, ⟨32, _⟩ => ⟨S1x512, .f32⟩
  | .local _ .vmem, ⟨33, _⟩ => ⟨S1x512, .f32⟩
  | .local _ .vmem, ⟨34, _⟩ => ⟨S512x512, .bf16⟩
  | .local _ .vmem, ⟨35, _⟩ => ⟨S512x512, .bf16⟩
  | .local _ .vmem, ⟨36, _⟩ => ⟨S1x512x128, .f32⟩
  | .local _ .vmem, ⟨37, _⟩ => ⟨S1x512x128, .f32⟩
  | .local _ .vmem, ⟨38, _⟩ => ⟨S512x512, .f32⟩
  | .local _ .vmem, ⟨39, _⟩ => ⟨S512x2048, .bf16⟩
  | .local _ .vmem, ⟨40, _⟩ => ⟨S512x2048, .bf16⟩
  | .local _ .vmem, ⟨41, _⟩ => ⟨S512x2048, .bf16⟩
  | .local _ .vmem, ⟨42, _⟩ => ⟨S512x2048, .bf16⟩
  | .local _ .vmem, ⟨43, _⟩ => ⟨S2048x1024, .bf16⟩
  | .local _ .vmem, ⟨44, _⟩ => ⟨S2048x1024, .bf16⟩
  | .local _ .vmem, ⟨45, _⟩ => ⟨S2048x1024, .bf16⟩
  | .local _ .vmem, ⟨46, _⟩ => ⟨S2048x1024, .bf16⟩
  | .local _ .vmem, ⟨47, _⟩ => ⟨S4x512x128, .f32⟩
  | .local _ .vmem, ⟨48, _⟩ => ⟨S4x512x128, .f32⟩
  | .local _ .vmem, ⟨49, _⟩ => ⟨S4x512x128, .f32⟩
  | .local _ .vmem, ⟨50, _⟩ => ⟨S4x512x128, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x4096, .f32⟩
  | .local _ .vmem, ⟨56, _⟩ => ⟨S512x4096, .f32⟩
  | .local _ .vmem, ⟨57, _⟩ => ⟨S1x4096, .f32⟩
  | .local _ .vmem, ⟨58, _⟩ => ⟨S512x4096, .bf16⟩
  | .local _ .vmem, ⟨59, _⟩ => ⟨S512x4096, .bf16⟩
  | .local _ .vmem, ⟨60, _⟩ => ⟨S1024x4096, .bf16⟩
  | .local _ .vmem, ⟨61, _⟩ => ⟨S1024x4096, .bf16⟩
  | .local _ .vmem, ⟨62, _⟩ => ⟨S4096x1024, .bf16⟩
  | .local _ .vmem, ⟨63, _⟩ => ⟨S4096x1024, .bf16⟩
  | .local _ .vmem, ⟨64, _⟩ => ⟨S1024x1024, .bf16⟩
  | .local _ .vmem, ⟨65, _⟩ => ⟨S1024x1024, .bf16⟩
  | .local _ .vmem, ⟨66, _⟩ => ⟨S1024x2048, .bf16⟩
  | .local _ .vmem, ⟨67, _⟩ => ⟨S1024x2048, .bf16⟩
  | .local _ .vmem, ⟨68, _⟩ => ⟨S2048x1024, .bf16⟩
  | .local _ .vmem, ⟨69, _⟩ => ⟨S2048x1024, .bf16⟩
  | .local _ .vmem, ⟨70, _⟩ => ⟨S1024x1024, .f32⟩
  | .local _ .vmem, ⟨71, _⟩ => ⟨S1024x1024, .f32⟩
  | .local _ .vmem, ⟨72, _⟩ => ⟨S1024x1024, .f32⟩
  | .local _ .vmem, ⟨73, _⟩ => ⟨S1024x1024, .f32⟩
  | .local _ .vmem, ⟨74, _⟩ => ⟨S512x4096, .f32⟩
  | .local _ .vmem, ⟨75, _⟩ => ⟨S512x4096, .f32⟩
  | .local _ .vmem, ⟨76, _⟩ => ⟨S1x4096, .f32⟩
  | .local _ .vmem, ⟨77, _⟩ => ⟨S512x4096, .f32⟩
  | .local _ .vmem, ⟨78, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_scratch0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_stg6_0 : Ref sig .tc := ⟨.vmem, 51, rfl⟩
abbrev cc3_stg6_1 : Ref sig .tc := ⟨.vmem, 52, rfl⟩
abbrev cc3_stg7_0 : Ref sig .tc := ⟨.vmem, 53, rfl⟩
abbrev cc3_stg7_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg2_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg2_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem5_1 : DmaSem sig := 48
abbrev cc3_sem6_0 : DmaSem sig := 49
abbrev cc3_sem6_1 : DmaSem sig := 50
abbrev cc3_sem7_0 : DmaSem sig := 51
abbrev cc3_sem7_1 : DmaSem sig := 52
abbrev cc4_sem0_0 : DmaSem sig := 53
abbrev cc4_sem0_1 : DmaSem sig := 54
abbrev cc4_sem1_0 : DmaSem sig := 55
abbrev cc4_sem2_0 : DmaSem sig := 56
abbrev cc4_sem2_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem3_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem2_1 : DmaSem sig := 76

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S3x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![4, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S4x512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S4x512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![16, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨3, ![4, 8, 8], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x4096 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]
-- ==== ReferenceIdeal.lean ====
abbrev S4x2048x4096 : Shape := ⟨3, ![4, 2048, 4096]⟩
abbrev S1x4096 : Shape := ⟨2, ![1, 4096]⟩
abbrev S1x4096x10240 : Shape := ⟨3, ![1, 4096, 10240]⟩
abbrev S1x3x2048 : Shape := ⟨3, ![1, 3, 2048]⟩
abbrev S1x16x128x128 : Shape := ⟨4, ![1, 16, 128, 128]⟩
abbrev S1x16x128 : Shape := ⟨3, ![1, 16, 128]⟩
abbrev S1x2048 : Shape := ⟨2, ![1, 2048]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x10240 : Shape := ⟨2, ![4096, 10240]⟩
abbrev S4x2048x10240 : Shape := ⟨3, ![4, 2048, 10240]⟩
abbrev S4x2048x2048 : Shape := ⟨3, ![4, 2048, 2048]⟩
abbrev S3x2048 : Shape := ⟨2, ![3, 2048]⟩
abbrev S4x2050x2048 : Shape := ⟨3, ![4, 2050, 2048]⟩
abbrev S2048 : Shape := ⟨1, ![2048]⟩
abbrev S1x1x2048 : Shape := ⟨3, ![1, 1, 2048]⟩
abbrev S16x128x128 : Shape := ⟨3, ![16, 128, 128]⟩
abbrev S16x128 : Shape := ⟨2, ![16, 128]⟩
abbrev S128x128 : Shape := ⟨2, ![128, 128]⟩
abbrev S1x128x128 : Shape := ⟨3, ![1, 128, 128]⟩
abbrev S4x16x128x16x128 : Shape := ⟨5, ![4, 16, 128, 16, 128]⟩
abbrev S16x4x16x128x128 : Shape := ⟨5, ![16, 4, 16, 128, 128]⟩
abbrev S128x16 : Shape := ⟨2, ![128, 16]⟩
abbrev S1x1x128x16x1 : Shape := ⟨5, ![1, 1, 128, 16, 1]⟩
abbrev S4096x4096 : Shape := ⟨2, ![4096, 4096]⟩
abbrev S4096x16384 : Shape := ⟨2, ![4096, 16384]⟩
abbrev S4x2048x16384 : Shape := ⟨3, ![4, 2048, 16384]⟩
abbrev S16384x4096 : Shape := ⟨2, ![16384, 4096]⟩

abbrev nBuf : Space → Nat
  | .hbm => 204
  | .vmem => 0
  | .smem => 0
  | _ => 0

abbrev hbmTy0_0 (i : Nat) : BufTy := match i % 128 with
  | 0 => ⟨S4x2048x4096, .f32⟩
  | 1 => ⟨S1x4096, .f32⟩
  | 2 => ⟨S1x4096x10240, .f32⟩
  | 3 => ⟨S1x3x2048, .f32⟩
  | 4 => ⟨S1x16x128x128, .f32⟩
  | 5 => ⟨S1x16x128, .f32⟩
  | 6 => ⟨S1x2048, .f32⟩
  | 7 => ⟨S1x2048, .f32⟩
  | 8 => ⟨S1x4096x4096, .f32⟩
  | 9 => ⟨S1x4096, .f32⟩
  | 10 => ⟨S1x4096x16384, .f32⟩
  | 11 => ⟨S1x16384x4096, .f32⟩
  | 12 => ⟨S4096, .f32⟩
  | 13 => ⟨S4096, .f32⟩
  | 14 => ⟨S4x2048x4096, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x1, .f32⟩
  | 25 => ⟨S4x2048x4096, .f32⟩
  | 26 => ⟨S4x2048x4096, .f32⟩
  | 27 => ⟨S1x1x4096, .f32⟩
  | 28 => ⟨S4x2048x4096, .f32⟩
  | 29 => ⟨S4x2048x4096, .f32⟩
  | 30 => ⟨S4096x10240, .f32⟩
  | 31 => ⟨S4x2048x10240, .f32⟩
  | 32 => ⟨S4x2048x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S3x2048, .f32⟩
  | 38 => ⟨S4x2048x2048, .f32⟩
  | 39 => ⟨S_, .i32⟩
  | 40 => ⟨S_, .f32⟩
  | 41 => ⟨S4x2050x2048, .f32⟩
  | 42 => ⟨S1x2048, .f32⟩
  | 43 => ⟨S2048, .f32⟩
  | 44 => ⟨S4x2048x2048, .f32⟩
  | 45 => ⟨S1x1x2048, .f32⟩
  | 46 => ⟨S4x2048x2048, .f32⟩
  | 47 => ⟨S4x2048x2048, .f32⟩
  | 48 => ⟨S1x2048, .f32⟩
  | 49 => ⟨S2048, .f32⟩
  | 50 => ⟨S4x2048x2048, .f32⟩
  | 51 => ⟨S1x1x2048, .f32⟩
  | 52 => ⟨S4x2048x2048, .f32⟩
  | 53 => ⟨S4x2048x2048, .f32⟩
  | 54 => ⟨S4x2048x2048, .f32⟩
  | 55 => ⟨S1x2048, .f32⟩
  | 56 => ⟨S2048, .f32⟩
  | 57 => ⟨S4x2048x2048, .f32⟩
  | 58 => ⟨S1x1x2048, .f32⟩
  | 59 => ⟨S4x2048x2048, .f32⟩
  | 60 => ⟨S4x2048x2048, .f32⟩
  | 61 => ⟨S4x2048x2048, .f32⟩
  | 62 => ⟨S4x2048x2048, .f32⟩
  | 63 => ⟨S4x2048x2048, .f32⟩
  | 64 => ⟨S4x2048x2048, .f32⟩
  | 65 => ⟨S_, .f32⟩
  | 66 => ⟨S4x2048x2048, .f32⟩
  | 67 => ⟨S4x2048x2048, .f32⟩
  | 68 => ⟨S4x2048x2048, .f32⟩
  | 69 => ⟨S_, .f32⟩
  | 70 => ⟨S4x2048x2048, .f32⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S4x2048x2048, .f32⟩
  | 80 => ⟨S4x2048x2048, .f32⟩
  | 81 => ⟨S4x2048x2048, .f32⟩
  | 82 => ⟨S_, .f32⟩
  | 83 => ⟨S4x2048x2048, .f32⟩
  | 84 => ⟨S4x2048x2048, .f32⟩
  | 85 => ⟨S4x2048x2048, .f32⟩
  | 86 => ⟨S_, .f32⟩
  | 87 => ⟨S4x2048x2048, .f32⟩
  | 88 => ⟨S4x2048x2048, .f32⟩
  | 89 => ⟨S4x2048x2048, .f32⟩
  | 90 => ⟨S_, .f32⟩
  | 91 => ⟨S4x2048x2048, .f32⟩
  | 92 => ⟨S4x2048x2048, .f32⟩
  | 93 => ⟨S_, .f32⟩
  | 94 => ⟨S4x2048x2048, .f32⟩
  | 95 => ⟨S4x2048x2048, .f32⟩
  | 96 => ⟨S4x2048x2048, .f32⟩
  | 97 => ⟨S16x128x128, .f32⟩
  | 98 => ⟨S16x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S1x128x128, .i1⟩
  | 111 => ⟨S_, .f32⟩
  | 112 => ⟨S16x128x128, .i1⟩
  | 113 => ⟨S16x128x128, .f32⟩
  | 114 => ⟨S16x128x128, .f32⟩
  | 115 => ⟨S4x16x128x16x128, .f32⟩
  | 116 => ⟨S16x4x16x128x128, .f32⟩
  | 117 => ⟨S4x16x128x16x128, .f32⟩
  | 118 => ⟨S128x16, .f32⟩
  | 119 => ⟨S1x1x128x16x1, .f32⟩
  | 120 => ⟨S4x16x128x16x128, .f32⟩
  | 121 => ⟨S4x16x128x16x128, .f32⟩
  | 122 => ⟨S4x2048x2048, .f32⟩
  | 123 => ⟨S4x2048x2048, .f32⟩
  | 124 => ⟨S2048, .f32⟩
  | 125 => ⟨S4x2048x2048, .f32⟩
  | 126 => ⟨S_, .f32⟩
  | 127 => ⟨S4x2048, .f32⟩
  | _ => ⟨S4x2048x4096, .f32⟩

abbrev hbmTy0_1 (i : Nat) : BufTy := match i % 128 with
  | 0 => ⟨S4x2048x1, .f32⟩
  | 1 => ⟨S_, .f32⟩
  | 2 => ⟨S4x2048x1, .f32⟩
  | 3 => ⟨S4x2048x1, .f32⟩
  | 4 => ⟨S_, .f32⟩
  | 5 => ⟨S4x2048x1, .f32⟩
  | 6 => ⟨S4x2048x1, .f32⟩
  | 7 => ⟨S4x2048x1, .f32⟩
  | 8 => ⟨S4x2048x2048, .f32⟩
  | 9 => ⟨S4x2048x2048, .f32⟩
  | 10 => ⟨S1x1x2048, .f32⟩
  | 11 => ⟨S4x2048x2048, .f32⟩
  | 12 => ⟨S4x2048x2048, .f32⟩
  | 13 => ⟨S2048, .f32⟩
  | 14 => ⟨S4x2048x2048, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x1, .f32⟩
  | 25 => ⟨S4x2048x2048, .f32⟩
  | 26 => ⟨S4x2048x2048, .f32⟩
  | 27 => ⟨S1x1x2048, .f32⟩
  | 28 => ⟨S4x2048x2048, .f32⟩
  | 29 => ⟨S4x2048x2048, .f32⟩
  | 30 => ⟨S4x2048x4096, .f32⟩
  | 31 => ⟨S4096x4096, .f32⟩
  | 32 => ⟨S4x2048x4096, .f32⟩
  | 33 => ⟨S4x2048x4096, .f32⟩
  | 34 => ⟨S4096, .f32⟩
  | 35 => ⟨S4x2048x4096, .f32⟩
  | 36 => ⟨S_, .f32⟩
  | 37 => ⟨S4x2048, .f32⟩
  | 38 => ⟨S4x2048x1, .f32⟩
  | 39 => ⟨S_, .f32⟩
  | 40 => ⟨S4x2048x1, .f32⟩
  | 41 => ⟨S4x2048x1, .f32⟩
  | 42 => ⟨S_, .f32⟩
  | 43 => ⟨S4x2048x1, .f32⟩
  | 44 => ⟨S4x2048x1, .f32⟩
  | 45 => ⟨S4x2048x1, .f32⟩
  | 46 => ⟨S4x2048x4096, .f32⟩
  | 47 => ⟨S4x2048x4096, .f32⟩
  | 48 => ⟨S1x1x4096, .f32⟩
  | 49 => ⟨S4x2048x4096, .f32⟩
  | 50 => ⟨S4x2048x4096, .f32⟩
  | 51 => ⟨S4096x16384, .f32⟩
  | 52 => ⟨S4x2048x16384, .f32⟩
  | 53 => ⟨S_, .f32⟩
  | 54 => ⟨S4x2048x16384, .f32⟩
  | 55 => ⟨S4x2048x16384, .f32⟩
  | 56 => ⟨S4x2048x16384, .f32⟩
  | 57 => ⟨S16384x4096, .f32⟩
  | 58 => ⟨S4x2048x4096, .f32⟩
  | 59 => ⟨S4x2048x4096, .f32⟩
  | 60 => ⟨S4x2048x4096, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x4096, .f32⟩
  | 72 => ⟨S4x2048x4096, .f32⟩
  | 73 => ⟨S1x1x4096, .f32⟩
  | 74 => ⟨S4x2048x4096, .f32⟩
  | 75 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_10 : Ref sig .tc := ⟨.hbm, 99, rfl⟩
abbrev main_v73 : Ref sig .tc := ⟨.hbm, 100, rfl⟩
abbrev main_call1_v0 : Ref sig .tc := ⟨.hbm, 101, rfl⟩
abbrev main_call1_c : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_c_0 : Ref sig .tc := ⟨.hbm, 107, rfl⟩
abbrev main_call1_v5 : Ref sig .tc := ⟨.hbm, 108, rfl⟩
abbrev main_v74 : Ref sig .tc := ⟨.hbm, 109, rfl⟩
abbrev main_v75 : Ref sig .tc := ⟨.hbm, 110, rfl⟩
abbrev main_cst_11 : Ref sig .tc := ⟨.hbm, 111, rfl⟩
abbrev main_call2_v0 : Ref sig .tc := ⟨.hbm, 112, rfl⟩
abbrev main_call2_v1 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_cst_13 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_15 : Ref sig .tc := ⟨.hbm, 143, rfl⟩
abbrev main_v102 : Ref sig .tc := ⟨.hbm, 144, rfl⟩
abbrev main_v103 : Ref sig .tc := ⟨.hbm, 145, rfl⟩
abbrev main_cst_16 : Ref sig .tc := ⟨.hbm, 146, rfl⟩
abbrev main_v104 : Ref sig .tc := ⟨.hbm, 147, rfl⟩
abbrev main_v105 : Ref sig .tc := ⟨.hbm, 148, rfl⟩
abbrev main_cst_17 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_18 : Ref sig .tc := ⟨.hbm, 164, rfl⟩
abbrev main_v120 : Ref sig .tc := ⟨.hbm, 165, rfl⟩
abbrev main_v121 : Ref sig .tc := ⟨.hbm, 166, rfl⟩
abbrev main_cst_19 : Ref sig .tc := ⟨.hbm, 167, rfl⟩
abbrev main_v122 : Ref sig .tc := ⟨.hbm, 168, rfl⟩
abbrev main_v123 : Ref sig .tc := ⟨.hbm, 169, rfl⟩
abbrev main_cst_20 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_call3_cst : Ref sig .tc := ⟨.hbm, 181, rfl⟩
abbrev main_call3_v0 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_21 : Ref sig .tc := ⟨.hbm, 189, rfl⟩
abbrev main_v140 : Ref sig .tc := ⟨.hbm, 190, rfl⟩
abbrev main_v141 : Ref sig .tc := ⟨.hbm, 191, rfl⟩
abbrev main_cst_22 : Ref sig .tc := ⟨.hbm, 192, rfl⟩
abbrev main_v142 : Ref sig .tc := ⟨.hbm, 193, rfl⟩
abbrev main_v143 : Ref sig .tc := ⟨.hbm, 194, rfl⟩
abbrev main_cst_23 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩

abbrev nD : Nat := 1
abbrev τ : Topo := Topo.v7x

variable {F : FTy → Type} [FloatOps F]
-- ==== Proof.Run.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the norm before the mixers does to its blocks and its scratch, and the data of the call: what each array holds
    after each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x4096 := Rect.unit (s := S512x4096) ![0, 0] S512x4096.size inb_S512x4096_S512x4096_0_0
abbrev r0_1 : Rect S1x4096 := Rect.unit (s := S1x4096) ![0, 0] S1x4096.size inb_S1x4096_S1x4096_0_0

def out0_2 (x0 : Vec F S512x4096 .f32) (x1 : Vec F S1x4096 .f32) : Vec F S512x4096 .bf16 :=
  View.canon [⟨r0_0, k0_pay1 (View.ld x0 r0_0) (View.ld x1 r0_1)⟩]

theorem cover0_2 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
theorem sound_kernel0 (c : Dev nD) (E : Set ℕ) (i : grid0.Coords) (arg1 : Memref sig .tc .vmem S512x4096 .f32) (harg1 : arg1.IsWhole) (arg2 : Memref sig .tc .vmem S1x4096 .f32) (harg2 : arg2.IsWhole) (arg3 : Memref sig .tc .vmem S512x4096 .bf16) (harg3 : arg3.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rmsnorm_cast i arg1 harg1 arg2 harg2 arg3 harg3) K := by
  simp only [cc0_rmsnorm_cast_eq_skeleton]; unfold cc0_rmsnorm_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Run.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the convolution mixer does to its blocks and its scratch, and the data of the call: what each array holds after
    each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev VO1_6 : View sig .tc .vmem S512x512 .bf16 := (Memref.whole cc1_stg6_0 : Memref sig .tc .vmem S512x512 .bf16).view
abbrev VO1_7 : View sig .tc .vmem S1x512x128 .f32 := (Memref.whole cc1_stg7_0 : Memref sig .tc .vmem S1x512x128 .f32).view
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x128 .f32 := win1_7.stage (cfg1.slots t 7)
abbrev hs1_7 (t : Fin cfg1.N) : (ms1_7 t).IsWhole := hstage1_7 ((cfg1.slots t 7).cast nbuf1_7)
abbrev scM1_0 : Memref sig .tc .vmem S520x512 .f32 := Memref.whole cc1_scratch0

abbrev VS1_0 : View sig .tc .vmem S520x512 .f32 := scM1_0.view

theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

abbrev cond1_0 (i : grid1.Coords) : Prop := (Scalar.cmpi .ne (Scalar.extui (Scalar.cmpi .eq (Scalar.select (Scalar.andi (Scalar.xori (Scalar.cmpi .slt (Scalar.remsi (BitVec.ofNat 32 (i 1).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 1).val) (Scalar.select (Scalar.cmpi .eq 4#32 0#32) 1#32 4#32)) 0#32)) (Scalar.addi (Scalar.remsi (BitVec.ofNat 32 (i 1).val) (Scalar.select (Scalar.cmpi .eq 4#32 0#32) 1#32 4#32)) (Scalar.select (Scalar.cmpi .eq 4#32 0#32) 1#32 4#32)) (Scalar.remsi (BitVec.ofNat 32 (i 1).val) (Scalar.select (Scalar.cmpi .eq 4#32 0#32) 1#32 4#32))) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

set_option maxHeartbeats 1000000 in
noncomputable def kernelRun1_A (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) :
    Σ' (L6 : List (View.Piece (Elt F) S512x512 .bf16)), Σ' (L7 : List (View.Piece (Elt F) S1x512x128 .f32)), { LS0 : List (View.Piece (Elt F) S520x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_conv_mixer i arg2 harg2 arg3 harg3 arg4 harg4 arg5 harg5 arg6 harg6 arg7 harg7 arg8 harg8 arg9 harg9 arg10 harg10) K } := by
  refine ⟨?_, ?_, ?_, fun E K => ?run⟩
  case run =>
    simp only [cc1_conv_mixer_eq_skeleton]; unfold cc1_conv_mixer_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
noncomputable def kernelRun1_B (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) :
    Σ' (L6 : List (View.Piece (Elt F) S512x512 .bf16)), Σ' (L7 : List (View.Piece (Elt F) S1x512x128 .f32)), { LS0 : List (View.Piece (Elt F) S520x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_conv_mixer i arg2 harg2 arg3 harg3 arg4 harg4 arg5 harg5 arg6 harg6 arg7 harg7 arg8 harg8 arg9 harg9 arg10 harg10) K } := by
  refine ⟨?_, ?_, ?_, fun E K => ?run⟩
  case run =>
    simp only [cc1_conv_mixer_eq_skeleton]; unfold cc1_conv_mixer_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

theorem cover1_A_6 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (y : S512x512.Idx) :
    ∃ pc ∈ (kernelRun1_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4 x5).1 S512x512.size (by sl_kernel_rfl) y

def out1_A_6 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) : Vec F S512x512 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 x0 x1 x2 x3 x4 x5).1)

theorem cover1_A_7 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (y : S1x512x128.Idx) :
    ∃ pc ∈ (kernelRun1_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4 x5).2.1 S1x512x128.size (by sl_kernel_rfl) y

def out1_A_7 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) : Vec F S1x512x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 x0 x1 x2 x3 x4 x5).2.1)

theorem scover1_A_0 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (y : S520x512.Idx) :
    ∃ pc ∈ (kernelRun1_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledBy (kernelRun1_A c i arg2 harg2 arg3 harg3 arg4 harg4 arg5 harg5 arg6 harg6 arg7 harg7 arg8 harg8 arg9 harg9 arg10 harg10 hc0 x0 x1 x2 x3 x4 x5).2.2.1 ![8, 512] (by sl_kernel_rfl) y

def sout1_A_0 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) : Vec F S520x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3 x4 x5).2.2.1)

theorem cover1_B_6 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) (y : S512x512.Idx) :
    ∃ pc ∈ (kernelRun1_B c i arg2 harg2 arg3 harg3 arg4 harg4 arg5 harg5 arg6 harg6 arg7 harg7 arg8 harg8 arg9 harg9 arg10 harg10 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 xs0).1 S512x512.size (by sl_kernel_rfl) y

def out1_B_6 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) : Vec F S512x512 .bf16 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 x0 x1 x2 x3 x4 x5 xs0).1)

theorem cover1_B_7 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) (y : S1x512x128.Idx) :
    ∃ pc ∈ (kernelRun1_B c i arg2 harg2 arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 xs0).2.1 S1x512x128.size (by sl_kernel_rfl) y

def out1_B_7 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) : Vec F S1x512x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 x0 x1 x2 x3 x4 x5 xs0).2.1)

theorem scover1_B_0 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) (y : S520x512.Idx) :
    ∃ pc ∈ (kernelRun1_B c i arg2 harg2 arg3 harg3 arg4 harg4 arg5 harg5 arg6 harg6 arg7 harg7 arg8 harg8 arg9 harg9 arg10 harg10 hc0 x0 x1 x2 x3 x4 x5 xs0).2.2.1, y ∈ pc.1.set :=
  View.cover_of_tiledBy (kernelRun1_B c i arg2 harg2 arg3 harg3 arg4 harg4 arg5 harg5 arg6 harg6 arg7 harg7 arg8 harg8 arg9 harg9 arg10 harg10 hc0 x0 x1 x2 x3 x4 x5 xs0).2.2.1 ![8, 512] (by sl_kernel_rfl) y

def sout1_B_0 (c : Dev nD) (i : grid1.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S520x512 .f32) (harg10 : arg10.IsWhole) (hc0 : ¬cond1_0 i)
    (x0 : Vec F S512x4096 .bf16) (x1 : Vec F S4096x512 .bf16) (x2 : Vec F S4096x512 .bf16) (x3 : Vec F S4096x512 .bf16) (x4 : Vec F S3x512 .f32) (x5 : Vec F S1x512 .f32) (xs0 : Vec F S520x512 .f32) : Vec F S520x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 x0 x1 x2 x3 x4 x5 xs0).2.2.1)

def outsAt1 (c : Dev nD) : (n : ℕ) → n < cfg1.N → Vec F S512x512 .bf16 × Vec F S1x512x128 .f32 × Vec F S520x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

theorem outsAt1_A (c : Dev nD) (t : Fin cfg1.N) (h0 : t.val % 4 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases hz : t.val = 0
    · rw [PhiS1_castSucc V c t, PhiS1_zero V c _ _ hz, PhiA1_eq]
      rw [outsAt1_A V c t h0]
      unfold out1_A_6 out1_A_7 sout1_A_0; (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _)
    · rw [PhiS1_castSucc V c t, PhiS1_pos V c _ _ hz]
      rw [outsAt1_A V c t h0]
      unfold out1_A_6 out1_A_7 sout1_A_0; (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS1_castSucc V c t, PhiS1_pos V c _ _ hz]
      rw [outsAt1_B V c t h0]
      unfold out1_B_6 out1_B_7 sout1_B_0; (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR1⟩, Hg⟩
  isplitl [HS0 HR1]
  · isplitl [HS0]
    · iexists _; iexact HS0
    iexact HR1
  iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Run

end
-- ==== Proof.Run.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the gated MLP mixer does to its blocks and its scratch, and the data of the call: what each array holds after
    each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev VO2_6 : View sig .tc .vmem S512x512 .bf16 := (Memref.whole cc2_stg6_0 : Memref sig .tc .vmem S512x512 .bf16).view
abbrev VO2_7 : View sig .tc .vmem S1x512x128 .f32 := (Memref.whole cc2_stg7_0 : Memref sig .tc .vmem S1x512x128 .f32).view
abbrev ms2_0 (t : Fin cfg2.N) : Memref sig .tc .vmem S512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x512 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512x128 .f32 := win2_7.stage (cfg2.slots t 7)
abbrev hs2_7 (t : Fin cfg2.N) : (ms2_7 t).IsWhole := hstage2_7 ((cfg2.slots t 7).cast nbuf2_7)
abbrev scM2_0 : Memref sig .tc .vmem S512x512 .f32 := Memref.whole cc2_scratch0

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1000000 in
noncomputable def kernelRun2_A (c : Dev nD) (i : grid2.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S512x512 .f32) (harg10 : arg10.IsWhole)
    (x0 : Vec F S512x4096 .bf16) (x1 : Vec F S4096x512 .bf16) (x2 : Vec F S4096x512 .bf16) (x3 : Vec F S4x128x128 .f32) (x4 : Vec F S4x128x128 .f32) (x5 : Vec F S1x512 .f32) :
    Σ' (L6 : List (View.Piece (Elt F) S512x512 .bf16)), Σ' (L7 : List (View.Piece (Elt F) S1x512x128 .f32)), { LT0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc2_gmlp_mixer i arg2 harg2 arg3 harg3 arg4 harg4 arg5 harg5 arg6 harg6 arg7 harg7 arg8 harg8 arg9 harg9 arg10 harg10) K } := by
  refine ⟨?_, ?_, ?_, fun E K => ?run⟩
  case run =>
    simp only [cc2_gmlp_mixer_eq_skeleton]; unfold cc2_gmlp_mixer_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

theorem cover2_A_6 (c : Dev nD) (i : grid2.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S512x512 .f32) (harg10 : arg10.IsWhole)
    (x0 : Vec F S512x4096 .bf16) (x1 : Vec F S4096x512 .bf16) (x2 : Vec F S4096x512 .bf16) (x3 : Vec F S4x128x128 .f32) (x4 : Vec F S4x128x128 .f32) (x5 : Vec F S1x512 .f32) (y : S512x512.Idx) :
    ∃ pc ∈ (kernelRun2_A c i arg2 harg2 arg3 harg3 arg4 harg4 arg5 harg5 arg6 harg6 arg7 harg7 arg8 harg8 arg9 harg9 arg10 harg10 x0 x1 x2 x3 x4 x5).1, y ∈ pc.1.set :=
  View.cover_of_tiledL (kernelRun2_A c i arg2 harg2 arg3 harg3 arg4 harg4 arg5 harg5 arg6 harg6 arg7 harg7 arg8 harg8 arg9 harg9 arg10 harg10 x0 x1 x2 x3 x4 x5).1 S512x512.size (by sl_kernel_rfl) y

def out2_A_6 (c : Dev nD) (i : grid2.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S512x512 .f32) (harg10 : arg10.IsWhole)
    (x0 : Vec F S512x4096 .bf16) (x1 : Vec F S4096x512 .bf16) (x2 : Vec F S4096x512 .bf16) (x3 : Vec F S4x128x128 .f32) (x4 : Vec F S4x128x128 .f32) (x5 : Vec F S1x512 .f32) : Vec F S512x512 .bf16 :=
  VO2_6.read (Elt F) (VO2_6.writes (Elt F) VO2_6.junk (kernelRun2_A c i arg2 harg2 arg3 harg3 arg4 harg4 arg5 harg5 arg6 harg6 arg7 harg7 arg8 harg8 arg9 harg9 arg10 harg10 x0 x1 x2 x3 x4 x5).1)

theorem cover2_A_7 (c : Dev nD) (i : grid2.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S512x512 .f32) (harg10 : arg10.IsWhole)
    (x0 : Vec F S512x4096 .bf16) (x1 : Vec F S4096x512 .bf16) (x2 : Vec F S4096x512 .bf16) (x3 : Vec F S4x128x128 .f32) (x4 : Vec F S4x128x128 .f32) (x5 : Vec F S1x512 .f32) (y : S1x512x128.Idx) :
    ∃ pc ∈ (kernelRun2_A c i arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun2_A c i arg2 harg2 arg3 harg3 arg4 harg4 arg5 harg5 arg6 harg6 arg7 harg7 arg8 harg8 arg9 harg9 arg10 harg10 x0 x1 x2 x3 x4 x5).2.1 S1x512x128.size (by sl_kernel_rfl) y

def out2_A_7 (c : Dev nD) (i : grid2.Coords) (arg2 : Memref sig .tc .vmem S512x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512x128 .f32) (harg9 : arg9.IsWhole) (arg10 : Memref sig .tc .vmem S512x512 .f32) (harg10 : arg10.IsWhole)
    (x0 : Vec F S512x4096 .bf16) (x1 : Vec F S4096x512 .bf16) (x2 : Vec F S4096x512 .bf16) (x3 : Vec F S4x128x128 .f32) (x4 : Vec F S4x128x128 .f32) (x5 : Vec F S1x512 .f32) : Vec F S1x512x128 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 x0 x1 x2 x3 x4 x5).2.1)

def outsAt2 (c : Dev nD) (t : Fin cfg2.N) : Vec F S512x512 .bf16 × Vec F S1x512x128 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (iblk2 V c 0 t) (iblk2 V c 1 t) (iblk2 V c 2 t) (iblk2 V c 3 t) (iblk2 V c 4 t) (iblk2 V c 5 t))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t).1
    | ⟨7, _⟩ => (outsAt2 V c t).2
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t).1 := by dsimp only [dat2]
theorem after2_7 (c : Dev nD) (t : Fin cfg2.N) : (dat2 V c).after 7 t = (outsAt2 V c t).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  rw [show (dat2 V c).Φ t.castSucc = Pipeline.ΦA spec2 c from rfl, PhiA2_eq]
  unfold outsAt2
  unfold out2_A_6 out2_A_7; (try dsimp only)
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ (iblk2 V c 0 t) (iblk2 V c 1 t) (iblk2 V c 2 t) (iblk2 V c 3 t) (iblk2 V c 4 t) (iblk2 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_A_6 c _ _ _ _ _ _ _ _ _ _ _ _ _ _ _ _ _ _ _ _ _ _ _ _ _)
  unfold owns; iexists _; isplitr
  swap; · iexact H7
  ipureintro; exact View.read_writes_of_cover _ _ _ _ _ (cover2_A_7 c _ _ _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Run.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the output projection does to its blocks and its scratch, and the data of the call: what each array holds after
    each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x2048 := Rect.unit (s := S512x2048) ![0, 0] S512x2048.size inb_S512x2048_S512x2048_0_0
abbrev r3_1 : Rect S2048x1024 := Rect.unit (s := S2048x1024) ![0, 0] S2048x1024.size inb_S2048x1024_S2048x1024_0_0
abbrev r3_2 : Rect S4x512x128 := Rect.unit (s := S4x512x128) ![0, 0, 0] S4x512x128.size inb_S4x512x128_S4x512x128_0_0_0
abbrev r3_3 : Rect S512x1024 := Rect.unit (s := S512x1024) ![0, 0] S512x1024.size inb_S512x1024_S512x1024_0_0

def out3_7 (x0 : Vec F S512x2048 .bf16) (x1 : Vec F S512x2048 .bf16) (x2 : Vec F S2048x1024 .bf16) (x3 : Vec F S2048x1024 .bf16) (x4 : Vec F S4x512x128 .f32) (x5 : Vec F S4x512x128 .f32) (x6 : Vec F S512x1024 .f32) : Vec F S512x1024 .f32 :=
  View.canon [⟨r3_3, k3_pay1 (k3_pay2 (View.ld x0 r3_0) (View.ld x2 r3_1) (View.ld x4 r3_2)) (k3_pay3 (View.ld x1 r3_0) (View.ld x3 r3_1) (View.ld x5 r3_2)) (View.ld x6 r3_3)⟩]

theorem cover3_7 (p0 : Vec F S512x1024 .f32) (y : S512x1024.Idx) :
    ∃ pc ∈ ([⟨r3_3, p0⟩] : List (View.Piece (Elt F) S512x1024 .f32)), y ∈ pc.1.set :=
  View.cover_of_tiled [⟨r3_3, p0⟩] S512x1024.size (by rfl) y

set_option maxHeartbeats 1000000 in
theorem sound_kernel3 (c : Dev nD) (E : Set ℕ) (i : grid3.Coords) (arg2 : Memref sig .tc .vmem S512x2048 .bf16) (harg2 : arg2.IsWhole) (arg3 : Memref sig .tc .vmem S512x2048 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S512x1024 .f32) (harg8 : arg8.IsWhole) (arg9 : Memref sig .tc .vmem S512x1024 .f32) (harg9 : arg9.IsWhole)
    (x0 : Vec F S512x2048 .bf16) (x1 : Vec F S512x2048 .bf16) (x2 : Vec F S2048x1024 .bf16) (x3 : Vec F S2048x1024 .bf16) (x4 : Vec F S4x512x128 .f32) (x5 : Vec F S4x512x128 .f32) (x6 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out3_7 x0 x1 x2 x3 x4 x5 x6)) -∗ K ⟨⟩))
      ⊢ wp frame (wpE (defs₀ (F := F)) Variants.none c none) E (cc3_out_proj i arg2 harg2 arg3 harg3 arg4 harg4 arg5 harg5 arg6 harg6 arg7 harg7 arg8 harg8 arg9 harg9) K := by
  simp only [cc3_out_proj_eq_skeleton]; unfold cc3_out_proj_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.Run.Region4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the norm before the MLP does to its blocks and its scratch, and the data of the call: what each array holds after
    each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S512x4096 := Rect.unit (s := S512x4096) ![0, 0] S512x4096.size inb_S512x4096_S512x4096_0_0
abbrev r4_1 : Rect S1x4096 := Rect.unit (s := S1x4096) ![0, 0] S1x4096.size inb_S1x4096_S1x4096_0_0

def out4_2 (x0 : Vec F S512x4096 .f32) (x1 : Vec F S1x4096 .f32) : Vec F S512x4096 .bf16 :=
  View.canon [⟨r4_0, k4_pay1 (View.ld x0 r4_0) (View.ld x1 r4_1)⟩]

theorem cover4_2 (p0 : Vec F S512x4096 .bf16) (y : S512x4096.Idx) :
    ∃ pc ∈ ([⟨r4_0, p0⟩] : List (View.Piece (Elt F) S512x4096 .bf16)), y ∈ pc.1.set :=
  View.cover_of_tiled [⟨r4_0, p0⟩] S512x4096.size (by rfl) y

set_option maxHeartbeats 1000000 in
theorem sound_kernel4 (c : Dev nD) (E : Set ℕ) (i : grid4.Coords) (arg1 : Memref sig .tc .vmem S512x4096 .f32) (harg1 : arg1.IsWhole) (arg2 : Memref sig .tc .vmem S1x4096 .f32) (harg2 : arg2.IsWhole) (arg3 : Memref sig .tc .vmem S512x4096 .bf16) (harg3 : arg3.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_rmsnorm_cast i arg1 harg1 arg2 harg2 arg3 harg3) K := by
  simp only [cc4_rmsnorm_cast_eq_skeleton]; unfold cc4_rmsnorm_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Run

end
-- ==== Proof.Run.Region5.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the first half of the MLP does to its blocks and its scratch, and the data of the call: what each array holds
    after each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1024x4096 := Rect.unit (s := S1024x4096) ![0, 0] S1024x4096.size inb_S1024x4096_S1024x4096_0_0
abbrev r5_1 : Rect S4096x1024 := Rect.unit (s := S4096x1024) ![0, 0] S4096x1024.size inb_S4096x1024_S4096x1024_0_0
abbrev r5_2 : Rect S1024x1024 := Rect.unit (s := S1024x1024) ![0, 0] S1024x1024.size inb_S1024x1024_S1024x1024_0_0

def out5_2 (x0 : Vec F S1024x4096 .bf16) (x1 : Vec F S4096x1024 .bf16) : Vec F S1024x1024 .bf16 :=
  View.canon [⟨r5_2, k5_pay1 (View.ld x0 r5_0) (View.ld x1 r5_1)⟩]

theorem cover5_2 (p0 : Vec F S1024x1024 .bf16) (y : S1024x1024.Idx) :
    ∃ pc ∈ ([⟨r5_2, p0⟩] : List (View.Piece (Elt F) S1024x1024 .bf16)), y ∈ pc.1.set :=
  View.cover_of_tiled [⟨r5_2, p0⟩] S1024x1024.size (by rfl) y

set_option maxHeartbeats 1000000 in
theorem sound_kernel5 (c : Dev nD) (E : Set ℕ) (i : grid5.Coords) (arg2 : Memref sig .tc .vmem S1024x4096 .bf16) (harg2 : arg2.IsWhole) (arg3 : Memref sig .tc .vmem S4096x1024 .bf16) (harg3 : arg3.IsWhole) (arg4 : Memref sig .tc .vmem S1024x1024 .bf16) (harg4 : arg4.IsWhole)
    (x0 : Vec F S1024x4096 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5_mlp_up i arg2 harg2 arg3 harg3 arg4 harg4) K := by
  simp only [cc5_mlp_up_eq_skeleton]; unfold cc5_mlp_up_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.Run.Region6.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the second half of the MLP does to its blocks and its scratch, and the data of the call: what each array holds
    after each point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) ↔ t.val % 8 = 0 :=
  (fun t => by
    have ht : t.val < 256 := Nat.lt_of_lt_of_eq t.isLt N_6
    have e0 : (grid6.coords t 0).val = t.val / 64 % 4 := Pipeline.Grid.coords_val t 0 (by decide) rfl
    have e1 : (grid6.coords t 1).val = t.val / 8 % 8 := Pipeline.Grid.coords_val t 1 (by decide) rfl
    have e2 : (grid6.coords t 2).val = t.val / 1 % 8 := Pipeline.Grid.coords_val t 2 (by decide) rfl
    simp only [cond6_0, e0, e1, e2]
    word_cmp
   : ∀ t : Fin grid6.N, cond6_0 (grid6.coords t) ↔ t.val % 8 = 0)

abbrev VO6_3 : View sig .tc .vmem S1024x1024 .f32 := (Memref.whole cc6_stg3_0 : Memref sig .tc .vmem S1024x1024 .f32).view
abbrev ms6_0 (t : Fin cfg6.N) : Memref sig .tc .vmem S1024x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x1024 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x1024 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x1024 .f32 := win6_3.stage (cfg6.slots t 3)
abbrev hs6_3 (t : Fin cfg6.N) : (ms6_3 t).IsWhole := hstage6_3 ((cfg6.slots t 3).cast nbuf6_3)

set_option maxHeartbeats 1000000 in
noncomputable def kernelRun6_A (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond6_0 i)
    (x0 : Vec F S1024x2048 .bf16) (x1 : Vec F S2048x1024 .bf16) (x2 : Vec F S1024x1024 .f32) :
    { L3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc6_mlp_down i arg3 harg3 arg4 harg4 arg5 harg5 arg6 harg6) K } := by
  refine ⟨?_, fun E K => ?run⟩
  case run =>
    simp only [cc6_mlp_down_eq_skeleton]; unfold cc6_mlp_down_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover6_A_3 (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond6_0 i)
    (x0 : Vec F S1024x2048 .bf16) (x1 : Vec F S2048x1024 .bf16) (x2 : Vec F S1024x1024 .f32) (y : S1024x1024.Idx) :
    ∃ pc ∈ (kernelRun6_A c i arg3 harg3 arg4 harg4 arg5 harg5 arg6 harg6 hc0 x0 x1 x2).1, y ∈ pc.1.set :=
  View.cover_of_tiledL (kernelRun6_A c i arg3 harg3 arg4 harg4 arg5 harg5 arg6 harg6 hc0 x0 x1 x2).1 S1024x1024.size (by sl_kernel_rfl) y

def out6_A_3 (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond6_0 i)
    (x0 : Vec F S1024x2048 .bf16) (x1 : Vec F S2048x1024 .bf16) (x2 : Vec F S1024x1024 .f32) : Vec F S1024x1024 .f32 :=
  VO6_3.read (Elt F) (VO6_3.writes (Elt F) VO6_3.junk (kernelRun6_A c i arg3 harg3 arg4 harg4 arg5 harg5 arg6 harg6 hc0 x0 x1 x2).1)

set_option maxHeartbeats 1000000 in
noncomputable def kernelRun6_B (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond6_0 i)
    (x0 : Vec F S1024x2048 .bf16) (x1 : Vec F S2048x1024 .bf16) (x2 : Vec F S1024x1024 .f32) (xo3 : Vec F S1024x1024 .f32) :
    { L3 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc6_mlp_down i arg3 harg3 arg4 harg4 arg5 harg5 arg6 harg6) K } := by
  refine ⟨?_, fun E K => ?run⟩
  case run =>
    simp only [cc6_mlp_down_eq_skeleton]; unfold cc6_mlp_down_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover6_B_3 (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond6_0 i)
    (x0 : Vec F S1024x2048 .bf16) (x1 : Vec F S2048x1024 .bf16) (x2 : Vec F S1024x1024 .f32) (xo3 : Vec F S1024x1024 .f32) (y : S1024x1024.Idx) :
    ∃ pc ∈ (kernelRun6_B c i arg3 harg3 arg4 harg4 arg5 harg5 arg6 harg6 hc0 x0 x1 x2 xo3).1, y ∈ pc.1.set :=
  View.cover_of_tiledL (kernelRun6_B c i arg3 harg3 arg4 harg4 arg5 harg5 arg6 harg6 hc0 x0 x1 x2 xo3).1 S1024x1024.size (by sl_kernel_rfl) y

def out6_B_3 (c : Dev nD) (i : grid6.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond6_0 i)
    (x0 : Vec F S1024x2048 .bf16) (x1 : Vec F S2048x1024 .bf16) (x2 : Vec F S1024x1024 .f32) (xo3 : Vec F S1024x1024 .f32) : Vec F S1024x1024 .f32 :=
  VO6_3.read (Elt F) (VO6_3.writes (Elt F) VO6_3.junk (kernelRun6_B c i arg3 harg3 arg4 harg4 arg5 harg5 arg6 harg6 hc0 x0 x1 x2 xo3).1)

def outsAt6 (c : Dev nD) : (n : ℕ) → n < cfg6.N → Vec F S1024x1024 .f32
  | 0, hn => out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) ((hcond6_0 ⟨0, hn⟩).mpr (Nat.zero_mod _)) (iblk6 V c 0 ⟨0, hn⟩) (iblk6 V c 1 ⟨0, hn⟩) (iblk6 V c 2 ⟨0, hn⟩)
  | n + 1, hn =>
    if h0 : (n + 1) % 8 = 0 then
      out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) ((hcond6_0 ⟨n + 1, hn⟩).mpr h0) (iblk6 V c 0 ⟨n + 1, hn⟩) (iblk6 V c 1 ⟨n + 1, hn⟩) (iblk6 V c 2 ⟨n + 1, hn⟩)
    else
      out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn))

theorem outsAt6_A (c : Dev nD) (t : Fin cfg6.N) (h0 : t.val % 8 = 0) :
    outsAt6 V c t.val t.isLt = out6_A_3 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t) (iblk6 V c 2 t) := by
  obtain ⟨n, hn⟩ := t
  cases n with
  | zero => exact rfl
  | succ n => exact (dif_pos h0).trans rfl

theorem outsAt6_B (c : Dev nD) (t : Fin cfg6.N) (h0 : ¬t.val % 8 = 0) :
    outsAt6 V c t.val t.isLt = out6_B_3 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) (iblk6 V c 2 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3_B (c : Dev nD) (t : Fin cfg6.N) (h0 : ¬t.val % 8 = 0) (d) :
    (dat6 V c).before 3 t d = (outsAt6 V c (t.val - 1) (Nat.lt_of_le_of_lt (Nat.sub_le _ _) t.isLt)) := by
  have hN : t.val < 256 := lt_of_lt_of_eq t.isLt (show cfg6.N = 256 from N_6)
  rw [Dat.before_out_kept _ 3 rfl t (by omega) (Bool.eq_false_iff.mpr fun h => by have := (flush6_3 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  have hN : t.val < 256 := lt_of_lt_of_eq t.isLt (show cfg6.N = 256 from N_6)
  by_cases h0 : t.val % 8 = 0
  · rw [outsAt6_A V c t h0]
    unfold out6_A_3
    iintro ⟨HΦ, Ho, ⟨%d0, H0⟩, ⟨%d1, H1⟩, ⟨%d2, H2⟩, ⟨%d3, H3⟩⟩
    iapply ((kernelRun6_A c (grid6.coords t) _ _ _ _ _ _ _ _ ((hcond6_0 t).mpr h0) (iblk6 V c 0 t) (iblk6 V c 1 t) (iblk6 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_A_3 c _ _ _ _ _ _ _ _ _ _ _ _ _)
  · rw [outsAt6_B V c t h0]
    simp only [before6_3_B V c t h0]
    unfold out6_B_3
    iintro ⟨HΦ, Ho, ⟨%d0, H0⟩, ⟨%d1, H1⟩, ⟨%d2, H2⟩, ⟨%d3, H3⟩⟩
    iapply ((kernelRun6_B c (grid6.coords t) _ _ _ _ _ _ _ _ (fun h => h0 ((hcond6_0 t).mp h)) (iblk6 V c 0 t) (iblk6 V c 1 t) (iblk6 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_B_3 c _ _ _ _ _ _ _ _ _ _ _ _ _ _)

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Run

end
-- ==== Proof.Run.Region7.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! What one grid point of the last norm does to its blocks and its scratch, and the data of the call: what each array holds after each
    point. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S512x4096 := Rect.unit (s := S512x4096) ![0, 0] S512x4096.size inb_S512x4096_S512x4096_0_0
abbrev r7_1 : Rect S1x4096 := Rect.unit (s := S1x4096) ![0, 0] S1x4096.size inb_S1x4096_S1x4096_0_0

def out7_2 (x0 : Vec F S512x4096 .f32) (x1 : Vec F S1x4096 .f32) : Vec F S512x4096 .f32 :=
  View.canon [⟨r7_0, k7_pay1 (View.ld x0 r7_0) (View.ld x1 r7_1)⟩]

theorem cover7_2 (p0 : Vec F S512x4096 .f32) (y : S512x4096.Idx) :
    ∃ pc ∈ ([⟨r7_0, p0⟩] : List (View.Piece (Elt F) S512x4096 .f32)), y ∈ pc.1.set :=
  View.cover_of_tiled [⟨r7_0, p0⟩] S512x4096.size (by rfl) y

set_option maxHeartbeats 1000000 in
theorem sound_kernel7 (c : Dev nD) (E : Set ℕ) (i : grid7.Coords) (arg1 : Memref sig .tc .vmem S512x4096 .f32) (harg1 : arg1.IsWhole) (arg2 : Memref sig .tc .vmem S1x4096 .f32) (harg2 : arg2.IsWhole) (arg3 : Memref sig .tc .vmem S512x4096 .f32) (harg3 : arg3.IsWhole)
    (x0 : Vec F S512x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7_rmsnorm_cast i arg1 harg1 arg2 harg2 arg3 harg3) K := by
  simp only [cc7_rmsnorm_cast_eq_skeleton]; unfold cc7_rmsnorm_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row7 (t : Fin cfg7.N) :
    defs₀ (F := F) .tc cfg7.body (cfg7.bodyArgs t (cfg7.slots t)) = bodyAt7 t := by
  unfold defs₀; rw [Defs.onTc_tc]

theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Regions

end Cert.KernelIdeal.Run

end
-- ==== Proof.Run.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! The operations on arrays between the calls: what each stretch reads and writes. The program is the kernel printed for the extended
    reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v10, main_v11, main_v12, main_v13, main_v14, main_v15]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v17, main_v18]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v20, main_v21]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v23, main_v24]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v26, main_v27]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

theorem hostOps7_fresh : (hostOps7 : List (HloOp τ sig (Elt F))).Forall fun op => op.fresh = ∅ := by
  simp only [List.Forall]; repeat' constructor
abbrev hostOps7_W : List (Ref sig .tc) := [main_v29]
theorem hostOps7_writes : (hostOps7 : List (HloOp τ sig (Elt F))).Forall fun op => op.writes ⊆ (hostOps7_W.map (Proc.devRef (τ := τ) .tc)).toFinset :=
  StableHlo.forall_writes_sub_of_map rfl
theorem hostOps7_args : ∀ a ∈ argRefs, a ∉ hostOps7_W := ListAll.forall_mem_of_all_decide (by decide +kernel)

theorem hostOps8_fresh : (hostOps8 : List (HloOp τ sig (Elt F))).Forall fun op => op.fresh = ∅ := by
  simp only [List.Forall]; repeat' constructor
abbrev hostOps8_W : List (Ref sig .tc) := [main_v31]
theorem hostOps8_writes : (hostOps8 : List (HloOp τ sig (Elt F))).Forall fun op => op.writes ⊆ (hostOps8_W.map (Proc.devRef (τ := τ) .tc)).toFinset :=
  StableHlo.forall_writes_sub_of_map rfl
theorem hostOps8_args : ∀ a ∈ argRefs, a ∉ hostOps8_W := ListAll.forall_mem_of_all_decide (by decide +kernel)

end Cert.KernelIdeal.Run

end
-- ==== Proof.Run.Fold0.lean ====
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Region6
public import proofs.«01_k».proof.Proof.Run.Region7
public import proofs.«01_k».proof.Proof.Run.Hosts0

@[expose] public section

set_option maxRecDepth 16384

noncomputable section

/-! The contents of every array after each step of the kernel: before a call the operations on arrays, after it what the call leaves. No
    step writes an argument. The program is the kernel printed for the extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact (dat3 (V7 m ρ) c).withArrays_arrAt launch₀3.sharedIn _ (A_eq3 (V7 m ρ) c) w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)
abbrev V13 : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
theorem W14_of (c : Dev nD) (r : Ref sig .tc) (h : ∀ w : Fin cfg6.W, Pipeline.arrRef spec6 w = r → (cfg6.win w).isOut = false) :
    W14 m ρ c (Proc.devRef .tc r) = W13 m ρ c (Proc.devRef .tc r) := by
  by_cases hw : ∃ w : Fin cfg6.W, Pipeline.arrRef spec6 w = r
  · obtain ⟨w, rfl⟩ := hw
    exact (W14_arr m ρ c w).trans (((dat6 (V13 m ρ) c).arrAt_in w (h w rfl) _).trans (A_eq6 (V13 m ρ) c w))
  · exact W14_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn6 a ha)).trans (W13_args m ρ c a ha)
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps7 (W14 m ρ c)
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h
theorem W15_args (c : Dev nD) : ∀ a ∈ argRefs, W15 m ρ c (Proc.devRef .tc a) = m ((c : Thread nD τ).loc a) :=
  fun a ha => (W15_of m ρ c a (hostOps7_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
theorem W16_of (c : Dev nD) (r : Ref sig .tc) (h : ∀ w : Fin cfg7.W, Pipeline.arrRef spec7 w = r → (cfg7.win w).isOut = false) :
    W16 m ρ c (Proc.devRef .tc r) = W15 m ρ c (Proc.devRef .tc r) := by
  by_cases hw : ∃ w : Fin cfg7.W, Pipeline.arrRef spec7 w = r
  · obtain ⟨w, rfl⟩ := hw
    exact (W16_arr m ρ c w).trans (((dat7 (V15 m ρ) c).arrAt_in w (h w rfl) _).trans (A_eq7 (V15 m ρ) c w))
  · exact W16_of_ne m ρ c r fun w e => hw ⟨w, e⟩
theorem argsIn7 : ∀ a ∈ argRefs, ∀ w : Fin cfg7.W, Pipeline.arrRef spec7 w = a → (cfg7.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn7 a ha)).trans (W15_args m ρ c a ha)
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps8 (W16 m ρ c)
theorem W17_of (c : Dev nD) (r : Ref sig .tc) (h : r ∉ hostOps8_W) : W17 m ρ c (Proc.devRef .tc r) = W16 m ρ c (Proc.devRef .tc r) :=
  StableHlo.after_of_writes_sub hostOps8 _ hostOps8_writes h
theorem W17_args (c : Dev nD) : ∀ a ∈ argRefs, W17 m ρ c (Proc.devRef .tc a) = m ((c : Thread nD τ).loc a) :=
  fun a ha => (W17_of m ρ c a (hostOps8_args a ha)).trans (W16_args m ρ c a ha)

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
theorem W17_main_arg7 (c : Dev nD) : W17 m ρ c (Proc.devRef .tc main_arg7) = m ((c : Thread nD τ).loc main_arg7) :=
  W17_args m ρ c main_arg7 (by decide)
theorem W17_main_arg8 (c : Dev nD) : W17 m ρ c (Proc.devRef .tc main_arg8) = m ((c : Thread nD τ).loc main_arg8) :=
  W17_args m ρ c main_arg8 (by decide)
theorem W17_main_arg9 (c : Dev nD) : W17 m ρ c (Proc.devRef .tc main_arg9) = m ((c : Thread nD τ).loc main_arg9) :=
  W17_args m ρ c main_arg9 (by decide)
theorem W17_main_arg10 (c : Dev nD) : W17 m ρ c (Proc.devRef .tc main_arg10) = m ((c : Thread nD τ).loc main_arg10) :=
  W17_args m ρ c main_arg10 (by decide)
theorem W17_main_arg11 (c : Dev nD) : W17 m ρ c (Proc.devRef .tc main_arg11) = m ((c : Thread nD τ).loc main_arg11) :=
  W17_args m ρ c main_arg11 (by decide)
theorem W17_main_arg12 (c : Dev nD) : W17 m ρ c (Proc.devRef .tc main_arg12) = m ((c : Thread nD τ).loc main_arg12) :=
  W17_args m ρ c main_arg12 (by decide)
end Cert.KernelIdeal.Run

end
-- ==== Proof.Run.State.lean ====
module

public import proofs.«01_k».proof.Proof.Run.Fold0

@[expose] public section

set_option maxRecDepth 16384

noncomputable section

/-! What every call of the kernel starts from, and the setting they share. The program is the kernel printed for the extended reals, its
    elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.KernelIdeal.Run

end
-- ==== Proof.Run.Record0.lean ====
module

public import proofs.«01_k».proof.Proof.Run.State

@[expose] public section

set_option maxRecDepth 16384

noncomputable section

/-! The norm before the mixers as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record1.lean ====
module

public import proofs.«01_k».proof.Proof.Run.State

@[expose] public section

set_option maxRecDepth 16384

noncomputable section

/-! The convolution mixer as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BI.BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record2.lean ====
module

public import proofs.«01_k».proof.Proof.Run.State

@[expose] public section

set_option maxRecDepth 16384

noncomputable section

/-! The gated MLP mixer as a step of the whole kernel: the resources it takes and leaves. The program is the kernel printed for the extended
    reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record3.lean ====
module

public import proofs.«01_k».proof.Proof.Run.State

@[expose] public section

set_option maxRecDepth 16384

noncomputable section

/-! The output projection as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record4.lean ====
module

public import proofs.«01_k».proof.Proof.Run.State

@[expose] public section

set_option maxRecDepth 16384

noncomputable section

/-! The norm before the MLP as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record5.lean ====
module

public import proofs.«01_k».proof.Proof.Run.State

@[expose] public section

set_option maxRecDepth 16384

noncomputable section

/-! The first half of the MLP as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record6.lean ====
module

public import proofs.«01_k».proof.Proof.Run.State

@[expose] public section

set_option maxRecDepth 16384

noncomputable section

/-! The second half of the MLP as a step of the whole kernel: the resources it takes and leaves. The program is the kernel printed for the
    extended reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) (A_eq6 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Record7.lean ====
module

public import proofs.«01_k».proof.Proof.Run.State

@[expose] public section

set_option maxRecDepth 16384

noncomputable section

/-! The last norm as a step of the whole kernel: the resources it takes and leaves. The program is the kernel printed for the extended
    reals, its elements kept arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) (A_eq7 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Main.lean ====
module

public import proofs.«01_k».proof.Proof.Run.Record0
public import proofs.«01_k».proof.Proof.Run.Record1
public import proofs.«01_k».proof.Proof.Run.Record2
public import proofs.«01_k».proof.Proof.Run.Record3
public import proofs.«01_k».proof.Proof.Run.Record4
public import proofs.«01_k».proof.Proof.Run.Record5
public import proofs.«01_k».proof.Proof.Run.Record6
public import proofs.«01_k».proof.Proof.Run.Record7

@[expose] public section

set_option maxRecDepth 16384

noncomputable section

/-! The whole kernel: its steps in order, run from any launch. The program is the kernel printed for the extended reals, its elements kept
    arbitrary here. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole kernel from any launch: the result is what the chain of steps leaves, the arguments are unchanged, every semaphore ends at zero. -/
theorem run : θ_run defs (onTc (τ := τ) (main (F := F))) ⟨m, fun _ => 0, ρ⟩ (fun r => (∀ c : Dev nD,
      r.2.mem ((c.tc : Thread nD τ).loc main_v31) = W17 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨h c _ (mem_uc main_v31 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩), funext fun g => hz g (.inr (no_unscoped g.2))⟩)

/-- The whole kernel runs, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => (h.1 c).2, h.2⟩) (run m ρ)

end Cert.KernelIdeal.Run

end
-- ==== Proof.Spec.lean ====
module

public import proofs.«01_k».proof.Proof.Gen.KernelIdeal.Launch
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The layer as mathematics over the extended reals: each stage as a function of the matrices it reads. Rows are the 8192 positions of the four
    sequences of 2048, one after the other. -/

namespace Cert.KernelIdeal.Spec

open Cert.KernelIdeal

/-- The mean square of a row of 4096, with the constant that keeps it positive, to the power minus one half. -/
def invRms (x : FVec Ideal S8192x4096 .f32) (r : Fin 8192) : EReal :=
  Ideal.rsqrt (Ideal.div (∑ k : Fin 4096, x (ix2 r k) * x (ix2 r k)) (Ideal.ofBits .f32 0x45800000#32) + Ideal.ofBits .f32 0x3727C5AC#32)

/-- The norm of a row by its root mean square, times a gain. -/
def rms (x : FVec Ideal S8192x4096 .f32) (g : FVec Ideal S1x4096 .f32) : FVec Ideal S8192x4096 .bf16 := fun i =>
  x i * invRms x (i 0) * g (ix2 0 (i 1))

/-- One entry of the input projection. -/
def proj (x : FVec Ideal S8192x4096 .bf16) (w : FVec Ideal S4096x10240 .bf16) (r : Fin 8192) (n : Fin 10240) : EReal :=
  ∑ k : Fin 4096, x (ix2 r k) * w (ix2 k n)

/-- The gated input of the convolution: the product of the second and the third group of projected columns. -/
def gated (x : FVec Ideal S8192x4096 .bf16) (w : FVec Ideal S4096x10240 .bf16) (r : Fin 8192) (n : Fin 2048) : EReal :=
  proj x w r ⟨2048 + n.val, by omega⟩ * proj x w r ⟨4096 + n.val, by omega⟩

/-- The gated input `s` positions earlier in the same sequence of 2048 positions, zero before its start. -/
def past (x : FVec Ideal S8192x4096 .bf16) (w : FVec Ideal S4096x10240 .bf16) (s : ℕ) (r : Fin 8192) (n : Fin 2048) : EReal :=
  if s ≤ r.val % 2048 then gated x w ⟨r.val - s, by omega⟩ n else 0

/-- The convolution mixer before its norm: the first group of projected columns times the causal convolution of width three. -/
def conv (x : FVec Ideal S8192x4096 .bf16) (w : FVec Ideal S4096x10240 .bf16) (cw : FVec Ideal S3x2048 .f32)
    (r : Fin 8192) (n : Fin 2048) : EReal :=
  proj x w r ⟨n.val, by omega⟩
    * (cw (ix2 2 n) * gated x w r n + cw (ix2 0 n) * past x w 2 r n + cw (ix2 1 n) * past x w 1 r n)

/-- The tanh form of the Gaussian error linear unit. -/
def gelu (a : EReal) : EReal :=
  a * (Ideal.ofBits .f32 0x3F000000#32 * (1 + Ideal.tanh (Ideal.ofBits .f32 0x3F4C422A#32 * (a + Ideal.ofBits .f32 0x3D372713#32 * (a * (a * a))))))

/-- The gate: the activation of the fourth group of projected columns. -/
def gate (x : FVec Ideal S8192x4096 .bf16) (w : FVec Ideal S4096x10240 .bf16) (r : Fin 8192) (n : Fin 2048) : EReal :=
  gelu (proj x w r ⟨6144 + n.val, by omega⟩)

/-- The value: the activation of the fifth group of projected columns. -/
def value (x : FVec Ideal S8192x4096 .bf16) (w : FVec Ideal S4096x10240 .bf16) (r : Fin 8192) (n : Fin 2048) : EReal :=
  gelu (proj x w r ⟨8192 + n.val, by omega⟩)

/-- The gated MLP mixer before its norm: the gate times the values mixed causally within each chunk of 128 positions by the weights of the
    column's head, plus the head's bias of the position. -/
def gmlp (x : FVec Ideal S8192x4096 .bf16) (w : FVec Ideal S4096x10240 .bf16) (sw : FVec Ideal S16x128x128 .f32)
    (sb : FVec Ideal S16x128x128 .f32) (r : Fin 8192) (n : Fin 2048) : EReal :=
  gate x w r n * ((∑ s : Fin 128, if s.val ≤ r.val % 128 then
        sw (ix3 ⟨n.val / 128, by omega⟩ ⟨r.val % 128, by omega⟩ s) * value x w ⟨128 * (r.val / 128) + s.val, by omega⟩ n else 0)
    + sb (ix3 ⟨n.val / 128, by omega⟩ ⟨r.val % 128, by omega⟩ ⟨n.val % 128, by omega⟩))

/-- A mixer's output times the gain of its norm. -/
def gained (M : Fin 8192 → Fin 2048 → EReal) (g : FVec Ideal S1x2048 .f32) : FVec Ideal S8192x2048 .bf16 := fun i =>
  M (i 0) (i 1) * g (ix2 0 (i 1))

/-- The squares of a mixer's output, summed over the four groups of 128 columns of each block of 512. -/
def squares (M : Fin 8192 → Fin 2048 → EReal) : FVec Ideal S4x8192x128 .f32 := fun i =>
  ∑ q : Fin 4, M (i 1) ⟨512 * (i 0).val + 128 * q.val + (i 2).val, by idx_bounds i; omega⟩
    * M (i 1) ⟨512 * (i 0).val + 128 * q.val + (i 2).val, by idx_bounds i; omega⟩

/-- The inverse root mean square of a row of 2048, from the partial sums of its squares. -/
def invParts (s : FVec Ideal S4x8192x128 .f32) (r : Fin 8192) : EReal :=
  Ideal.rsqrt (Ideal.div (∑ l : Fin 128, ∑ j : Fin 4, s (ix3 j r l)) (Ideal.ofBits .f32 0x45000000#32) + Ideal.ofBits .f32 0x3727C5AC#32)

/-- The output projection of the two mixers, each scaled by its inverse root mean square, added to the residual. -/
def outProj (ya yb : FVec Ideal S8192x2048 .bf16) (w : FVec Ideal S4096x4096 .bf16) (sa sb : FVec Ideal S4x8192x128 .f32)
    (x : FVec Ideal S8192x4096 .f32) : FVec Ideal S8192x4096 .f32 := fun i =>
  x i + (∑ k : Fin 2048, ya (ix2 (i 0) k) * w (ix2 ⟨k.val, by omega⟩ (i 1))) * invParts sa (i 0)
    + (∑ k : Fin 2048, yb (ix2 (i 0) k) * w (ix2 ⟨2048 + k.val, by omega⟩ (i 1))) * invParts sb (i 0)

/-- The first half of the MLP: the squared positive part of the product of the rows with the weight. -/
def up (x : FVec Ideal S8192x4096 .bf16) (w : FVec Ideal S4096x16384 .bf16) : FVec Ideal S8192x16384 .bf16 := fun i =>
  max (∑ k : Fin 4096, x (ix2 (i 0) k) * w (ix2 k (i 1))) 0 * max (∑ k : Fin 4096, x (ix2 (i 0) k) * w (ix2 k (i 1))) 0

/-- The second half of the MLP: the residual plus the product of the rows with the weight. -/
def down (a : FVec Ideal S8192x16384 .bf16) (w : FVec Ideal S16384x4096 .bf16) (h : FVec Ideal S8192x4096 .f32) :
    FVec Ideal S8192x4096 .f32 := fun i =>
  h i + ∑ k : Fin 16384, a (ix2 (i 0) k) * w (ix2 k (i 1))

/-! ## The layer's arguments as matrices, and the layer -/

/-- The row that position `s` of sequence `b` is. -/
abbrev rowOf (b : Fin 4) (s : Fin 2048) : Fin 8192 := ⟨2048 * b.val + s.val, by omega⟩

/-- The positions of the four sequences, one after the other. -/
def rows (x : FVec Ideal S4x2048x4096 .f32) : FVec Ideal S8192x4096 .f32 := fun i =>
  x (ix3 ⟨(i 0).val / 2048, by idx_bounds i; omega⟩ ⟨(i 0).val % 2048, by omega⟩ (i 1))

/-- The input projection's weight as a matrix. -/
def wIn (w : FVec Ideal S1x4096x10240 .f32) : FVec Ideal S4096x10240 .bf16 := fun i => show EReal from w (ix3 0 (i 0) (i 1))

/-- The convolution's taps as a matrix. -/
def taps (w : FVec Ideal S1x3x2048 .f32) : FVec Ideal S3x2048 .f32 := fun i => w (ix3 0 (i 0) (i 1))

/-- The spatial weights, head by head. -/
def heads (w : FVec Ideal S1x16x128x128 .f32) : FVec Ideal S16x128x128 .f32 := fun i => w (ix4 0 (i 0) (i 1) (i 2))

/-- The spatial biases, the same for every column of a head. -/
def biases (b : FVec Ideal S1x16x128 .f32) : FVec Ideal S16x128x128 .f32 := fun i => b (ix3 0 (i 0) (i 1))

/-- The output projection's weight as a matrix. -/
def wOut (w : FVec Ideal S1x4096x4096 .f32) : FVec Ideal S4096x4096 .bf16 := fun i => show EReal from w (ix3 0 (i 0) (i 1))

/-- The MLP's first weight as a matrix. -/
def wUp (w : FVec Ideal S1x4096x16384 .f32) : FVec Ideal S4096x16384 .bf16 := fun i => show EReal from w (ix3 0 (i 0) (i 1))

/-- The MLP's second weight as a matrix. -/
def wDown (w : FVec Ideal S1x16384x4096 .f32) : FVec Ideal S16384x4096 .bf16 := fun i => show EReal from w (ix3 0 (i 0) (i 1))

/-- The last gain as a row. -/
def gainRow (g : FVec Ideal S4096 .f32) : FVec Ideal S1x4096 .f32 := fun i => g (ix1 (i 1))

section
variable (x : FVec Ideal S4x2048x4096 .f32) (g : FVec Ideal S1x4096 .f32) (w : FVec Ideal S1x4096x10240 .f32) (cw : FVec Ideal S1x3x2048 .f32)
  (sw : FVec Ideal S1x16x128x128 .f32) (sb : FVec Ideal S1x16x128 .f32) (ga gb : FVec Ideal S1x2048 .f32) (wo : FVec Ideal S1x4096x4096 .f32)
  (gm : FVec Ideal S1x4096 .f32) (wu : FVec Ideal S1x4096x16384 .f32) (wd : FVec Ideal S1x16384x4096 .f32) (gf : FVec Ideal S4096 .f32)

/-- The layer's convolution mixer. -/
def mixA : Fin 8192 → Fin 2048 → EReal := conv (rms (rows x) g) (wIn w) (taps cw)

/-- The layer's gated MLP mixer. -/
def mixB : Fin 8192 → Fin 2048 → EReal := gmlp (rms (rows x) g) (wIn w) (heads sw) (biases sb)

/-- The residual after the mixers. -/
def afterMix : FVec Ideal S8192x4096 .f32 :=
  outProj (gained (mixA x g w cw) ga) (gained (mixB x g w sw sb) gb) (wOut wo) (squares (mixA x g w cw)) (squares (mixB x g w sw sb)) (rows x)

/-- The residual after the MLP. -/
def afterMlp : FVec Ideal S8192x4096 .f32 :=
  down (up (rms (afterMix x g w cw sw sb ga gb wo) gm) (wUp wu)) (wDown wd) (afterMix x g w cw sw sb ga gb wo)

/-- The layer. -/
def layer : FVec Ideal S4x2048x4096 .f32 := fun i =>
  show EReal from rms (afterMlp x g w cw sw sb ga gb wo gm wu wd) (gainRow gf) (ix2 (rowOf (i 0) (i 1)) (i 2))
end

end Cert.KernelIdeal.Spec

end
-- ==== Proof.Norm1Value.lean ====
module

public import Idealize.ShloMosaic.Lib.Pipeline.ValueKit
public import Idealize.ShloMosaic.Lib.Pointwise
public import proofs.«01_k».proof.Proof.Run.Region0
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Norm1

open Cert.KernelIdeal Cert.KernelIdeal.Gen Cert.KernelIdeal.Run Cert.KernelIdeal.Spec

/-- A block of the norm, at a place, from the block of rows and the gain. -/
theorem pay_apply (x : FVec Ideal S512x4096 .f32) (g : FVec Ideal S1x4096 .f32) (j : S512x4096.Idx) :
    k0_pay1 (F := Ideal) x g j = x j * Ideal.rsqrt (Ideal.div (∑ k : Fin 4096, x (ix2 (j 0) k) * x (ix2 (j 0) k)) (Ideal.ofBits .f32 0x45800000#32)
      + Ideal.ofBits .f32 0x3727C5AC#32) * g (ix2 0 (j 1)) := by
  pointwise [k0_pay1]

/-- The block of rows each grid point reads and writes. -/
theorem idx : ∀ t : Fin cfg0.N, win0_0.index t = ![t.val, 0] ∧ win0_1.index t = ![0, 0] ∧ win0_2.index t = ![t.val, 0] :=
  (by decide +kernel : ∀ t : Fin grid0.N, _)

variable (V : (c : Dev nD) → (b : Ref sig .tc) → Buf (Elt Ideal) ((c : Thread nD τ).loc b))

/-- What a grid point stores at a place of its block is the norm at the place of the array. -/
theorem point (c : Dev nD) (t : Fin cfg0.N) (y) : k0_pay1 (iblk0 V c 0 t) (iblk0 V c 1 t) y
    = rms (V c main_v0) (V c main_v4) (((cfg0.win 2).blk t).view.emb y) := by
  refine (pay_apply _ _ _).trans ?_
  unfold rms invRms
  blk_point [iblk0, idx t]

/-- The array of results after the run is the norm of the rows. -/
theorem final (c : Dev nD) : (dat0 V c).arrAt 2 cfg0.N = rms (V c main_v0) (V c main_v4) := by
  refine (dat0 V c).arrAt_eq_of_covers 2 _ (by decide +kernel) fun t _ y => ?_
  blk_simp
  rw [after0_2]; unfold out0_2; frame_out
  exact point V c t y

end Cert.KernelIdeal.Norm1

end
-- ==== Proof.ConvValue.lean ====
module

public import Idealize.ShloMosaic.Lib.Pipeline.ReadBack
public import Idealize.ShloMosaic.Lib.Pipeline.ValueKit
public import Idealize.ShloMosaic.Lib.Pointwise
public import Idealize.ShloMosaic.Lib.WritesUnit
public import proofs.«01_k».proof.Proof.Run.Region1
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen Cert.KernelIdeal.Run Cert.KernelIdeal.Spec

/-- The block of rows and of columns each grid point reads and writes. -/
theorem idx : ∀ t : Fin cfg1.N, win1_0.index t = ![t.val % 16, 0]
    ∧ win1_1.index t = ![0, t.val / 16]
    ∧ win1_2.index t = ![0, t.val / 16 + 4]
    ∧ win1_3.index t = ![0, t.val / 16 + 8]
    ∧ win1_4.index t = ![0, t.val / 16]
    ∧ win1_5.index t = ![0, t.val / 16]
    ∧ win1_6.index t = ![t.val % 16, t.val / 16]
    ∧ win1_7.index t = ![t.val / 16, t.val % 16, 0] :=
  (by decide +kernel : ∀ t : Fin grid1.N, _)

variable (V : (c : Dev nD) → (b : Ref sig .tc) → Buf (Elt Ideal) ((c : Thread nD τ).loc b))

/-- The array's row that row `a` of point `t`'s block is. -/
abbrev rowOf (t : Fin cfg1.N) (a : Fin 512) : Fin 8192 := ⟨512 * (t.val % 16) + a.val, by omega⟩

/-- The array's column that column `b` of point `t`'s block is. -/
abbrev colOf (t : Fin cfg1.N) (b : Fin 512) : Fin 2048 :=
  ⟨512 * (t.val / 16) + b.val, by have := lt_of_lt_of_eq t.isLt N_1; omega⟩

/-- A point's gate at a place of its block. -/
theorem gate_apply (c : Dev nD) (t : Fin cfg1.N) (j : S512x512.Idx) :
    k1_pay6 (iblk1 V c 0 t) (iblk1 V c 1 t) j
      = proj (V c main_v5) (V c main_v2) (rowOf t (j 0))
          ⟨(colOf t (j 1)).val, by have := (colOf t (j 1)).isLt; omega⟩ := by
  pointwise [k1_pay6, k1_pay5, proj]
  blk_point [iblk1, idx t]

/-- A point's gated input at a place of its block. -/
theorem gated_apply (c : Dev nD) (t : Fin cfg1.N) (j : S512x512.Idx) :
    k1_pay7 (iblk1 V c 0 t) (iblk1 V c 2 t) (iblk1 V c 3 t) j
      = gated (V c main_v5) (V c main_v2) (rowOf t (j 0)) (colOf t (j 1)) := by
  pointwise [k1_pay7, k1_pay5, gated, proj]
  blk_point [iblk1, idx t]

/-- A row of the scratch after rows 8 to 519 were written: the new row there, what was before elsewhere. -/
theorem written_apply (f : (View.whole cc1_scratch0).ty.Contents (Elt Ideal)) (p : FVec Ideal S512x512 .f32)
    (L : List (View.Piece (Elt Ideal) S520x512 .f32)) (y : S520x512.Idx) :
    (View.whole cc1_scratch0).read (Elt Ideal) ((View.whole cc1_scratch0).writes (Elt Ideal) f
        (⟨Rect.unit ![8, 0] ![512, 512] inb_S520x512_S512x512_8_0, p⟩ :: L)) y
      = if h : 8 ≤ (y 0).val then p (ix2 ⟨(y 0).val - 8, by idx_bounds y; omega⟩ (y 1))
        else (View.whole cc1_scratch0).read (Elt Ideal) ((View.whole cc1_scratch0).writes (Elt Ideal) f L) y := by
  split
  · next h =>
    exact View.read_writes_cons_rows_of_mem (o := 8) _ f _ p L y _ rfl (by show _ = 8 + ((y 0).val - 8); omega) rfl
  · next h =>
    exact View.read_writes_cons_rows_of_not_mem (o := 8) (W := 512) _ f _ p L y rfl rfl (.inl (by omega))

/-- The first eight rows of the scratch after a point are the last eight of its gated input. -/
theorem halo (c : Dev nD) (t : Fin cfg1.N) (j : S520x512.Idx) (hj : (j 0).val < 8) :
    (outsAt1 V c t.val t.isLt).2.2 j
      = k1_pay7 (iblk1 V c 0 t) (iblk1 V c 2 t) (iblk1 V c 3 t) (ix2 ⟨504 + (j 0).val, by omega⟩ (j 1)) := by
  have key : ∀ L : List (View.Piece (Elt Ideal) S520x512 .f32),
      View.canon (⟨Rect.unit ![0, 0] ![8, 512] inb_S520x512_S8x512_0_0,
          k1_pay1 (k1_pay7 (iblk1 V c 0 t) (iblk1 V c 2 t) (iblk1 V c 3 t))⟩ :: L) j
        = k1_pay7 (iblk1 V c 0 t) (iblk1 V c 2 t) (iblk1 V c 3 t) (ix2 ⟨504 + (j 0).val, by omega⟩ (j 1)) := fun L => by
    obtain ⟨x, rfl⟩ : ∃ x, (Rect.unit (s := S520x512) ![0, 0] ![8, 512] inb_S520x512_S8x512_0_0).emb x = j :=
      ⟨ix2 ⟨(j 0).val, hj⟩ (j 1), by
        funext a; apply Fin.ext
        match a with
        | ⟨0, _⟩ => show 0 + 1 * (j 0).val = (j 0).val; omega
        | ⟨1, _⟩ => show 0 + 1 * (j 1).val = (j 1).val; omega⟩
    rw [View.canon_cons_emb]
    generalize k1_pay7 (iblk1 V c 0 t) (iblk1 V c 2 t) (iblk1 V c 3 t) = p
    pointwise [k1_pay1]
    blk_point []
  by_cases h : t.val % 4 = 0
  · rw [outsAt1_A V c t h]; frame_out; exact key _
  · rw [outsAt1_B V c t h]; frame_out; exact key _

/-- Row `o + a` of the scratch at a point, `o` being six or seven: the gated input `8 - o` rows before row `a`. -/
theorem past_of_written (c : Dev nD) (t : Fin cfg1.N) (f : (View.whole cc1_scratch0).ty.Contents (Elt Ideal))
    (L : List (View.Piece (Elt Ideal) S520x512 .f32))
    (hL : ∀ y : S520x512.Idx, (y 0).val < 8 → (View.whole cc1_scratch0).read (Elt Ideal) ((View.whole cc1_scratch0).writes (Elt Ideal) f L) y
      = if h : t.val % 4 = 0 then 0 else (outsAt1 V c (t.val - 1) (Nat.lt_of_le_of_lt (Nat.sub_le _ _) t.isLt)).2.2 y)
    (o s : ℕ) (hos : o + s = 8) (hs : s ≤ 2) (a : Fin 512) (b : Fin 512) (y : S520x512.Idx) (hy0 : (y 0).val = o + a.val) (hy1 : y 1 = b) :
    (View.whole cc1_scratch0).read (Elt Ideal) ((View.whole cc1_scratch0).writes (Elt Ideal) f
        (⟨Rect.unit ![8, 0] ![512, 512] inb_S520x512_S512x512_8_0, k1_pay9 (iblk1 V c 0 t) (iblk1 V c 2 t) (iblk1 V c 3 t)⟩ :: L)) y
      = past (V c main_v5) (V c main_v2) s (rowOf t a) (colOf t b) := by
  have hN := lt_of_lt_of_eq t.isLt N_1
  subst hy1
  rw [written_apply]
  unfold past
  have hrow : (rowOf t a).val = 512 * (t.val % 16) + a.val := rfl
  by_cases h8 : 8 ≤ (y 0).val
  · rw [dif_pos h8, if_pos (by rw [hrow]; omega)]
    rw [show k1_pay9 (iblk1 V c 0 t) (iblk1 V c 2 t) (iblk1 V c 3 t) = k1_pay7 (iblk1 V c 0 t) (iblk1 V c 2 t) (iblk1 V c 3 t) from by
      funext i; pointwise [k1_pay9]]
    rw [gated_apply]
    congr 1
    apply Fin.ext
    show 512 * (t.val % 16) + ((y 0).val - 8) = 512 * (t.val % 16) + a.val - s
    omega
  · rw [dif_neg h8, hL y (by omega)]
    by_cases h4 : t.val % 4 = 0
    · rw [dif_pos h4, if_neg (by rw [hrow]; omega)]
    · rw [dif_neg h4, if_pos (by rw [hrow]; omega)]
      rw [halo V c ⟨t.val - 1, Nat.lt_of_le_of_lt (Nat.sub_le _ _) t.isLt⟩ y (by omega), gated_apply]
      congr 1
      · apply Fin.ext
        show 512 * ((t.val - 1) % 16) + (504 + (y 0).val) = 512 * (t.val % 16) + a.val - s
        omega
      · apply Fin.ext
        show 512 * ((t.val - 1) / 16) + (y 1).val = 512 * (t.val / 16) + (y 1).val
        omega

/-- What a point that starts a sequence reads back from the scratch. -/
theorem past_start (c : Dev nD) (t : Fin cfg1.N) (h : t.val % 4 = 0) (o s : ℕ) (hos : o + s = 8) (hs : s ≤ 2)
    (inb : ∀ a, (![o, 0] : Fin 2 → ℕ) a + (![512, 512] : Fin 2 → ℕ) a ≤ S520x512.size a) :
    (View.whole cc1_scratch0).readCov (Val := Elt Ideal)
        [⟨Rect.unit ![8, 0] ![512, 512] inb_S520x512_S512x512_8_0, k1_pay9 (iblk1 V c 0 t) (iblk1 V c 2 t) (iblk1 V c 3 t)⟩,
          ⟨Rect.unit ![0, 0] ![8, 512] inb_S520x512_S8x512_0_0, k1_pay8 (F := Ideal)⟩]
        (Rect.unit (s := S520x512) ![o, 0] ![512, 512] inb).toLoadRect
      = fun j : S512x512.Idx => past (V c main_v5) (V c main_v2) s (rowOf t (j 0)) (colOf t (j 1)) := by
  funext j
  refine past_of_written V c t _ _ (fun y hy => ?_) o s hos hs (j 0) (j 1) _ (show o + 1 * (j 0).val = _ by omega)
    (Fin.ext (show 0 + 1 * (j 1).val = _ by omega))
  rw [dif_pos h]
  refine (View.read_writes_cons_rows_of_mem (o := 0) _ _ _ _ _ y (ix2 ⟨(y 0).val, hy⟩ (y 1)) rfl
    (by show _ = 0 + (y 0).val; omega) rfl).trans ?_
  pointwise [k1_pay8]

/-- What any other point reads back from the scratch. -/
theorem past_next (c : Dev nD) (t : Fin cfg1.N) (h : ¬t.val % 4 = 0) (o s : ℕ) (hos : o + s = 8) (hs : s ≤ 2)
    (f : (View.whole cc1_scratch0).ty.Contents (Elt Ideal))
    (hf : (View.whole cc1_scratch0).read (Elt Ideal) f = (outsAt1 V c (t.val - 1) (Nat.lt_of_le_of_lt (Nat.sub_le _ _) t.isLt)).2.2)
    (inb : ∀ a, (![o, 0] : Fin 2 → ℕ) a + (![512, 512] : Fin 2 → ℕ) a ≤ S520x512.size a) :
    View.ld (View.read (Elt Ideal) (View.whole cc1_scratch0) ((View.whole cc1_scratch0).writes (Elt Ideal) f
        [⟨Rect.unit ![8, 0] ![512, 512] inb_S520x512_S512x512_8_0, k1_pay9 (iblk1 V c 0 t) (iblk1 V c 2 t) (iblk1 V c 3 t)⟩]))
        (Rect.unit (s := S520x512) ![o, 0] ![512, 512] inb)
      = fun j : S512x512.Idx => past (V c main_v5) (V c main_v2) s (rowOf t (j 0)) (colOf t (j 1)) := by
  funext j
  refine past_of_written V c t _ _ (fun y hy => ?_) o s hos hs (j 0) (j 1) _ (show o + 1 * (j 0).val = _ by omega)
    (Fin.ext (show 0 + 1 * (j 1).val = _ by omega))
  rw [dif_neg h]
  exact congrFun hf y

/-- A point's mixer output, from its gate, its gated input and the two scratch reads. -/
theorem mixed_apply (c : Dev nD) (t : Fin cfg1.N) (P Q : FVec Ideal S512x512 .f32) (j : S512x512.Idx)
    (hP : P = fun j => past (V c main_v5) (V c main_v2) 2 (rowOf t (j 0)) (colOf t (j 1)))
    (hQ : Q = fun j => past (V c main_v5) (V c main_v2) 1 (rowOf t (j 0)) (colOf t (j 1))) :
    k1_pay2 (k1_pay6 (iblk1 V c 0 t) (iblk1 V c 1 t))
        (k1_pay10 (iblk1 V c 0 t) (iblk1 V c 2 t) (iblk1 V c 3 t)
          (View.ld (iblk1 V c 4 t) (Rect.unit (s := S3x512) ![2, 0] ![1, 512] inb_S3x512_S1x512_2_0)))
        (View.ld (iblk1 V c 4 t) (Rect.unit (s := S3x512) ![0, 0] ![1, 512] inb_S3x512_S1x512_0_0)) P
        (View.ld (iblk1 V c 4 t) (Rect.unit (s := S3x512) ![1, 0] ![1, 512] inb_S3x512_S1x512_1_0)) Q j
      = conv (V c main_v5) (V c main_v2) (V c main_v6)
          (rowOf t (j 0)) (colOf t (j 1)) := by
  subst hP hQ
  unfold k1_pay2 k1_pay10 conv
  pointwise []
  rw [gate_apply, gated_apply]
  blk_point [iblk1, idx t]

/-- A point's block of the output, from its gate, its gated input and the two scratch reads. -/
theorem out_apply (c : Dev nD) (t : Fin cfg1.N) (P Q : FVec Ideal S512x512 .f32) (j : S512x512.Idx)
    (hP : P = fun j => past (V c main_v5) (V c main_v2) 2 (rowOf t (j 0)) (colOf t (j 1)))
    (hQ : Q = fun j => past (V c main_v5) (V c main_v2) 1 (rowOf t (j 0)) (colOf t (j 1))) :
    k1_pay4 (k1_pay6 (iblk1 V c 0 t) (iblk1 V c 1 t))
        (k1_pay10 (iblk1 V c 0 t) (iblk1 V c 2 t) (iblk1 V c 3 t)
          (View.ld (iblk1 V c 4 t) (Rect.unit (s := S3x512) ![2, 0] ![1, 512] inb_S3x512_S1x512_2_0)))
        (View.ld (iblk1 V c 4 t) (Rect.unit (s := S3x512) ![0, 0] ![1, 512] inb_S3x512_S1x512_0_0)) P
        (View.ld (iblk1 V c 4 t) (Rect.unit (s := S3x512) ![1, 0] ![1, 512] inb_S3x512_S1x512_1_0)) Q (iblk1 V c 5 t) j
      = gained (conv (V c main_v5) (V c main_v2) (V c main_v6)) (V c main_v8) (ix2 (rowOf t (j 0)) (colOf t (j 1))) := by
  unfold k1_pay4 gained
  pointwise []
  rw [mixed_apply V c t P Q _ hP hQ]
  blk_point [iblk1, idx t]

/-- A point's block of the sums of squares, from its gate, its gated input and the two scratch reads. -/
theorem squares_apply (c : Dev nD) (t : Fin cfg1.N) (P Q : FVec Ideal S512x512 .f32) (j : S1x512x128.Idx)
    (hP : P = fun j => past (V c main_v5) (V c main_v2) 2 (rowOf t (j 0)) (colOf t (j 1)))
    (hQ : Q = fun j => past (V c main_v5) (V c main_v2) 1 (rowOf t (j 0)) (colOf t (j 1))) :
    k1_pay3 (k1_pay6 (iblk1 V c 0 t) (iblk1 V c 1 t))
        (k1_pay10 (iblk1 V c 0 t) (iblk1 V c 2 t) (iblk1 V c 3 t)
          (View.ld (iblk1 V c 4 t) (Rect.unit (s := S3x512) ![2, 0] ![1, 512] inb_S3x512_S1x512_2_0)))
        (View.ld (iblk1 V c 4 t) (Rect.unit (s := S3x512) ![0, 0] ![1, 512] inb_S3x512_S1x512_0_0)) P
        (View.ld (iblk1 V c 4 t) (Rect.unit (s := S3x512) ![1, 0] ![1, 512] inb_S3x512_S1x512_1_0)) Q j
      = squares (conv (V c main_v5) (V c main_v2) (V c main_v6))
          (ix3 ⟨t.val / 16, by have := lt_of_lt_of_eq t.isLt N_1; omega⟩ (rowOf t (j 1)) (j 2)) := by
  unfold k1_pay3 squares
  pointwise []
  rw [Fin.sum_univ_four]
  simp only [mixed_apply V c t P Q _ hP hQ]
  generalize conv _ _ _ = M
  have e : ∀ (r r' : Fin 8192) (n n' : Fin 2048), r.val = r'.val → n.val = n'.val → M r n * M r n = M r' n' * M r' n' := by
    intro r r' n n' hr hn
    obtain rfl := Fin.ext hr
    obtain rfl := Fin.ext hn
    rfl
  refine congrArg₂ (· + ·) (congrArg₂ (· + ·) (congrArg₂ (· + ·) (e _ _ _ _ rfl ?_) (e _ _ _ _ rfl ?_)) (e _ _ _ _ rfl ?_))
    (e _ _ _ _ rfl ?_)
  · show 512 * (t.val / 16) + (j 2).val = 512 * (t.val / 16) + 128 * 0 + (j 2).val; omega
  · show 512 * (t.val / 16) + (128 + (j 2).val) = 512 * (t.val / 16) + 128 * 1 + (j 2).val; omega
  · show 512 * (t.val / 16) + (256 + (j 2).val) = 512 * (t.val / 16) + 128 * 2 + (j 2).val; omega
  · show 512 * (t.val / 16) + (384 + (j 2).val) = 512 * (t.val / 16) + 128 * 3 + (j 2).val; omega

/-- What a point leaves in its block of the output. -/
theorem point6 (c : Dev nD) (t : Fin cfg1.N) (j : S512x512.Idx) :
    (dat1 V c).after 6 t j
      = gained (conv (V c main_v5) (V c main_v2) (V c main_v6)) (V c main_v8) (ix2 (rowOf t (j 0)) (colOf t (j 1))) := by
  rw [after1_6]
  by_cases h : t.val % 4 = 0
  · rw [outsAt1_A V c t h]; frame_out
    exact out_apply V c t _ _ j (past_start V c t h 6 2 rfl (by decide) _) (past_start V c t h 7 1 rfl (by decide) _)
  · rw [outsAt1_B V c t h]; frame_out
    exact out_apply V c t _ _ j (past_next V c t h 6 2 rfl (by decide) _ (read_unread_whole _ _ _) _)
      (past_next V c t h 7 1 rfl (by decide) _ (read_unread_whole _ _ _) _)

/-- What a point leaves in its block of the sums of squares. -/
theorem point7 (c : Dev nD) (t : Fin cfg1.N) (j : S1x512x128.Idx) :
    (dat1 V c).after 7 t j
      = squares (conv (V c main_v5) (V c main_v2) (V c main_v6))
          (ix3 ⟨t.val / 16, by have := lt_of_lt_of_eq t.isLt N_1; omega⟩ (rowOf t (j 1)) (j 2)) := by
  rw [after1_7]
  by_cases h : t.val % 4 = 0
  · rw [outsAt1_A V c t h]; frame_out
    exact squares_apply V c t _ _ j (past_start V c t h 6 2 rfl (by decide) _) (past_start V c t h 7 1 rfl (by decide) _)
  · rw [outsAt1_B V c t h]; frame_out
    exact squares_apply V c t _ _ j (past_next V c t h 6 2 rfl (by decide) _ (read_unread_whole _ _ _) _)
      (past_next V c t h 7 1 rfl (by decide) _ (read_unread_whole _ _ _) _)

/-- The whole output: the mixer's output times the gain. -/
theorem final6 (c : Dev nD) : (dat1 V c).arrAt 6 cfg1.N
    = gained (conv (V c main_v5) (V c main_v2) (V c main_v6)) (V c main_v8) :=
  (dat1 V c).arrAt_eq_of_covers 6 _ (by decide +kernel) fun t hf y => by
  blk_simp [idx t]
  refine (point6 V c t _).trans ?_
  blk_ext [idx t]

/-- The whole second output: the sums of squares. -/
theorem final7 (c : Dev nD) : (dat1 V c).arrAt 7 cfg1.N
    = squares (conv (V c main_v5) (V c main_v2) (V c main_v6)) :=
  (dat1 V c).arrAt_eq_of_covers 7 _ (by decide +kernel) fun t hf y => by
  blk_simp [idx t]
  refine (point7 V c t _).trans ?_
  blk_ext [idx t]

end Cert.KernelIdeal.Conv

end
-- ==== Proof.GmlpValue.lean ====
module

public import Idealize.ShloMosaic.Lib.Pipeline.ValueKit
public import Idealize.ShloMosaic.Lib.Pointwise
public import proofs.«01_k».proof.Proof.Run.Region2
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Gmlp

open Cert.KernelIdeal Cert.KernelIdeal.Gen Cert.KernelIdeal.Run Cert.KernelIdeal.Spec

/-- The blocks each grid point reads and writes. -/
theorem idx : ∀ t : Fin cfg2.N, win2_0.index t = ![t.val % 16, 0]
    ∧ win2_1.index t = ![0, t.val / 16 + 12]
    ∧ win2_2.index t = ![0, t.val / 16 + 16]
    ∧ win2_3.index t = ![t.val / 16, 0, 0]
    ∧ win2_4.index t = ![t.val / 16, 0, 0]
    ∧ win2_5.index t = ![0, t.val / 16]
    ∧ win2_6.index t = ![t.val % 16, t.val / 16]
    ∧ win2_7.index t = ![t.val / 16, t.val % 16, 0] :=
  (by decide +kernel : ∀ t : Fin grid2.N, _)

variable (V : (c : Dev nD) → (b : Ref sig .tc) → Buf (Elt Ideal) ((c : Thread nD τ).loc b))

/-- A comparison of two small positions, as words, selects as the comparison of the positions. -/
theorem select_le (a b : ℕ) (ha : a < 128) (hb : b < 128) (u v : EReal) :
    Scalar.select (IntOp.cmpi CmpIPredicate.sle (BitVec.ofNat 32 a) (BitVec.ofNat 32 b)) u v = if a ≤ b then u else v := by
  rw [WordCmp.cmpi_sle_ofNat (by omega) (by omega)]
  by_cases h : a ≤ b <;> simp [h, Scalar.select]

/-- The array's row that row `a` of point `t`'s block is. -/
abbrev rowOf (t : Fin cfg2.N) (a : Fin 512) : Fin 8192 := ⟨512 * (t.val % 16) + a.val, by omega⟩

/-- The array's column that column `b` of point `t`'s block is. -/
abbrev colOf (t : Fin cfg2.N) (b : Fin 512) : Fin 2048 :=
  ⟨512 * (t.val / 16) + b.val, by have := lt_of_lt_of_eq t.isLt N_2; omega⟩

/-- The activation payload at a place: the activation of the product there. -/
theorem gelu_apply (a : Vec Ideal S512x4096 .bf16) (b : Vec Ideal S4096x512 .bf16) (j : S512x512.Idx) :
    k2_pay4 a b j = gelu (∑ k, a (ix2 (j 0) k) * b (ix2 k (j 1))) := by
  pointwise [k2_pay4, k2_pay3, gelu]

/-- A point's gate at a place of its block. -/
theorem gate_apply (c : Dev nD) (t : Fin cfg2.N) (j : S512x512.Idx) :
    k2_pay4 (iblk2 V c 0 t) (iblk2 V c 1 t) j
      = gate (V c main_v5) (V c main_v2) (rowOf t (j 0)) (colOf t (j 1)) := by
  rw [gelu_apply]
  refine congrArg gelu ?_
  unfold proj
  blk_point [iblk2, idx t]

/-- A point's value at a place of its block. -/
theorem value_apply (c : Dev nD) (t : Fin cfg2.N) (j : S512x512.Idx) :
    k2_pay5 (iblk2 V c 0 t) (iblk2 V c 2 t) j
      = value (V c main_v5) (V c main_v2) (rowOf t (j 0)) (colOf t (j 1)) := by
  refine (gelu_apply (iblk2 V c 0 t) (iblk2 V c 2 t) j).trans (congrArg gelu ?_)
  unfold proj
  blk_point [iblk2, idx t]

/-- A block of the mixer's output, from its gate and value blocks, the spatial weights of its four heads and their biases. -/
def mixBlk (gu : FVec Ideal S512x512 .f32) (gv : FVec Ideal S512x512 .bf16) (w b : FVec Ideal S4x128x128 .f32) : FVec Ideal S512x512 .f32 := fun i =>
  gu i * ((∑ s : Fin 128, if s.val ≤ (i 0).val % 128 then
        w (ix3 ⟨(i 1).val / 128, by idx_bounds i; omega⟩ ⟨(i 0).val % 128, by omega⟩ s)
          * gv (ix2 ⟨128 * ((i 0).val / 128) + s.val, by idx_bounds i; omega⟩ (i 1)) else 0)
    + b (ix3 ⟨(i 1).val / 128, by idx_bounds i; omega⟩ ⟨(i 0).val % 128, by omega⟩ ⟨(i 1).val % 128, by omega⟩))

/-- One tile of the block: rows of chunk `q`, columns of head `h`. -/
theorem tile (gu : FVec Ideal S512x512 .f32) (gv : FVec Ideal S512x512 .bf16) (w b : FVec Ideal S4x128x128 .f32) (q h : ℕ) (hq : q < 4) (hh : h < 4)
    (y : S512x512.Idx) (x : S128x128.Idx) (h0 : (y 0).val = 128 * q + (x 0).val) (h1 : (y 1).val = 128 * h + (x 1).val) (v : EReal)
    (hv : v = gu y * ((∑ s : Fin 128, Scalar.select (IntOp.cmpi CmpIPredicate.sle (BitVec.ofNat 32 s.val) (BitVec.ofNat 32 (x 0).val))
        (w (ix3 ⟨h, hh⟩ (x 0) s) * gv (ix2 ⟨128 * q + s.val, by omega⟩ (y 1))) 0) + b (ix3 ⟨h, hh⟩ (x 0) (x 1)))) :
    v = mixBlk gu gv w b y := by
  have x0 : (x 0).val < 128 := (x 0).isLt
  have x1 : (x 1).val < 128 := (x 1).isLt
  rw [hv]
  unfold mixBlk
  have e1 : (y 1).val / 128 = h := by omega
  have e2 : (y 0).val % 128 = (x 0).val := by omega
  have e3 : (y 0).val / 128 = q := by omega
  have e4 : (y 1).val % 128 = (x 1).val := by omega
  simp only [e1, e2, e3, e4]
  refine congrArg (gu y * ·) (congrArg₂ (· + ·) (Finset.sum_congr rfl fun s _ => ?_) rfl)
  exact select_le _ _ s.isLt x0 _ _

/-- What a point leaves in its output blocks, from its block of the mixer's output. -/
theorem left (c : Dev nD) (t : Fin cfg2.N) :
    (dat2 V c).after 6 t = k2_pay2 (F := Ideal) (mixBlk (k2_pay4 (iblk2 V c 0 t) (iblk2 V c 1 t)) (k2_pay5 (iblk2 V c 0 t) (iblk2 V c 2 t)) (iblk2 V c 3 t) (iblk2 V c 4 t)) (iblk2 V c 5 t)
    ∧ (dat2 V c).after 7 t = k2_pay1 (F := Ideal) (mixBlk (k2_pay4 (iblk2 V c 0 t) (iblk2 V c 1 t)) (k2_pay5 (iblk2 V c 0 t) (iblk2 V c 2 t)) (iblk2 V c 3 t) (iblk2 V c 4 t)) := by
  rw [after2_6, after2_7]
  unfold outsAt2; frame_out
  generalize hgu : k2_pay4 (iblk2 V c 0 t) (iblk2 V c 1 t) = gu
  generalize hgv : k2_pay5 (iblk2 V c 0 t) (iblk2 V c 2 t) = gv
  generalize hw : iblk2 V c 3 t = w
  generalize hb : iblk2 V c 4 t = b
  generalize hY : View.readCov (Val := Elt Ideal) _ _ _ = Y
  have h : Y = mixBlk gu gv w b := by
    subst hY
    funext y
    rw [View.readCov_eq_canon']
    canon_tiles x h
    all_goals
      change 0 + 1 * (y 0).val = _ at h0
      change 0 + 1 * (y 1).val = _ at h1
      rw [Nat.zero_add, Nat.one_mul] at h0 h1
    case piece0 => exact tile gu gv w b 3 3 (by decide) (by decide) y x (h0.trans (by omega)) (h1.trans (by omega)) _ (by open_payloads; pointwise []; blk_point [])
    case piece1 => exact tile gu gv w b 2 3 (by decide) (by decide) y x (h0.trans (by omega)) (h1.trans (by omega)) _ (by open_payloads; pointwise []; blk_point [])
    case piece2 => exact tile gu gv w b 1 3 (by decide) (by decide) y x (h0.trans (by omega)) (h1.trans (by omega)) _ (by open_payloads; pointwise []; blk_point [])
    case piece3 => exact tile gu gv w b 0 3 (by decide) (by decide) y x (h0.trans (by omega)) (h1.trans (by omega)) _ (by open_payloads; pointwise []; blk_point [])
    case piece4 => exact tile gu gv w b 3 2 (by decide) (by decide) y x (h0.trans (by omega)) (h1.trans (by omega)) _ (by open_payloads; pointwise []; blk_point [])
    case piece5 => exact tile gu gv w b 2 2 (by decide) (by decide) y x (h0.trans (by omega)) (h1.trans (by omega)) _ (by open_payloads; pointwise []; blk_point [])
    case piece6 => exact tile gu gv w b 1 2 (by decide) (by decide) y x (h0.trans (by omega)) (h1.trans (by omega)) _ (by open_payloads; pointwise []; blk_point [])
    case piece7 => exact tile gu gv w b 0 2 (by decide) (by decide) y x (h0.trans (by omega)) (h1.trans (by omega)) _ (by open_payloads; pointwise []; blk_point [])
    case piece8 => exact tile gu gv w b 3 1 (by decide) (by decide) y x (h0.trans (by omega)) (h1.trans (by omega)) _ (by open_payloads; pointwise []; blk_point [])
    case piece9 => exact tile gu gv w b 2 1 (by decide) (by decide) y x (h0.trans (by omega)) (h1.trans (by omega)) _ (by open_payloads; pointwise []; blk_point [])
    case piece10 => exact tile gu gv w b 1 1 (by decide) (by decide) y x (h0.trans (by omega)) (h1.trans (by omega)) _ (by open_payloads; pointwise []; blk_point [])
    case piece11 => exact tile gu gv w b 0 1 (by decide) (by decide) y x (h0.trans (by omega)) (h1.trans (by omega)) _ (by open_payloads; pointwise []; blk_point [])
    case piece12 => exact tile gu gv w b 3 0 (by decide) (by decide) y x (h0.trans (by omega)) (h1.trans (by omega)) _ (by open_payloads; pointwise []; blk_point [])
    case piece13 => exact tile gu gv w b 2 0 (by decide) (by decide) y x (h0.trans (by omega)) (h1.trans (by omega)) _ (by open_payloads; pointwise []; blk_point [])
    case piece14 => exact tile gu gv w b 1 0 (by decide) (by decide) y x (h0.trans (by omega)) (h1.trans (by omega)) _ (by open_payloads; pointwise []; blk_point [])
    case piece15 => exact tile gu gv w b 0 0 (by decide) (by decide) y x (h0.trans (by omega)) (h1.trans (by omega)) _ (by open_payloads; pointwise []; blk_point [])
  subst h
  exact ⟨rfl, rfl⟩

/-- A point's block of the mixer's output, at a place. -/
theorem mixed_apply (c : Dev nD) (t : Fin cfg2.N) (j : S512x512.Idx) :
    mixBlk (k2_pay4 (iblk2 V c 0 t) (iblk2 V c 1 t)) (k2_pay5 (iblk2 V c 0 t) (iblk2 V c 2 t)) (iblk2 V c 3 t) (iblk2 V c 4 t) j
      = gmlp (V c main_v5) (V c main_v2) (V c main_v10) (V c main_v14) (rowOf t (j 0)) (colOf t (j 1)) := by
  have hN := lt_of_lt_of_eq t.isLt N_2
  have j0 : (j 0).val < 512 := (j 0).isLt
  have j1 : (j 1).val < 512 := (j 1).isLt
  unfold mixBlk gmlp
  refine congrArg₂ (· * ·) (gate_apply V c t j) (congrArg₂ (· + ·) (Finset.sum_congr rfl fun s _ => ?_) ?_)
  · have er : (rowOf t (j 0)).val % 128 = (j 0).val % 128 := by
      show (512 * (t.val % 16) + (j 0).val) % 128 = _; omega
    refine if_congr (by rw [er]) (congrArg₂ (· * ·) ?_ ((value_apply V c t _).trans ?_)) rfl
    · blk_point [iblk2, idx t]
    · refine congrArg₂ (value _ _) (Fin.ext ?_) rfl
      show 512 * (t.val % 16) + (128 * ((j 0).val / 128) + s.val) = 128 * ((512 * (t.val % 16) + (j 0).val) / 128) + s.val
      omega
  · blk_point [iblk2, idx t]

/-- What a point leaves in its block of the output. -/
theorem point6 (c : Dev nD) (t : Fin cfg2.N) (j : S512x512.Idx) :
    (dat2 V c).after 6 t j
      = gained (gmlp (V c main_v5) (V c main_v2) (V c main_v10) (V c main_v14)) (V c main_v15) (ix2 (rowOf t (j 0)) (colOf t (j 1))) := by
  rw [(left V c t).1]
  unfold k2_pay2 gained
  pointwise []
  rw [mixed_apply V c t]
  blk_point [iblk2, idx t]

/-- What a point leaves in its block of the sums of squares. -/
theorem point7 (c : Dev nD) (t : Fin cfg2.N) (j : S1x512x128.Idx) :
    (dat2 V c).after 7 t j
      = squares (gmlp (V c main_v5) (V c main_v2) (V c main_v10) (V c main_v14))
          (ix3 ⟨t.val / 16, by have := lt_of_lt_of_eq t.isLt N_2; omega⟩ (rowOf t (j 1)) (j 2)) := by
  rw [(left V c t).2]
  unfold k2_pay1 squares
  pointwise []
  rw [Fin.sum_univ_four]
  simp only [mixed_apply V c t]
  generalize gmlp _ _ _ _ = M
  have e : ∀ (r r' : Fin 8192) (n n' : Fin 2048), r.val = r'.val → n.val = n'.val → M r n * M r n = M r' n' * M r' n' := by
    intro r r' n n' hr hn
    obtain rfl := Fin.ext hr
    obtain rfl := Fin.ext hn
    rfl
  refine congrArg₂ (· + ·) (congrArg₂ (· + ·) (congrArg₂ (· + ·) (e _ _ _ _ rfl ?_) (e _ _ _ _ rfl ?_)) (e _ _ _ _ rfl ?_))
    (e _ _ _ _ rfl ?_)
  · show 512 * (t.val / 16) + (j 2).val = 512 * (t.val / 16) + 128 * 0 + (j 2).val; omega
  · show 512 * (t.val / 16) + (128 + (j 2).val) = 512 * (t.val / 16) + 128 * 1 + (j 2).val; omega
  · show 512 * (t.val / 16) + (256 + (j 2).val) = 512 * (t.val / 16) + 128 * 2 + (j 2).val; omega
  · show 512 * (t.val / 16) + (384 + (j 2).val) = 512 * (t.val / 16) + 128 * 3 + (j 2).val; omega

/-- The whole output: the mixer's output times the gain. -/
theorem final6 (c : Dev nD) : (dat2 V c).arrAt 6 cfg2.N
    = gained (gmlp (V c main_v5) (V c main_v2) (V c main_v10) (V c main_v14)) (V c main_v15) :=
  (dat2 V c).arrAt_eq_of_covers 6 _ (by decide +kernel) fun t hf y => by
  blk_simp [idx t]
  refine (point6 V c t _).trans ?_
  blk_ext [idx t]

/-- The whole second output: the sums of squares. -/
theorem final7 (c : Dev nD) : (dat2 V c).arrAt 7 cfg2.N
    = squares (gmlp (V c main_v5) (V c main_v2) (V c main_v10) (V c main_v14)) :=
  (dat2 V c).arrAt_eq_of_covers 7 _ (by decide +kernel) fun t hf y => by
  blk_simp [idx t]
  refine (point7 V c t _).trans ?_
  blk_ext [idx t]

end Cert.KernelIdeal.Gmlp

end
-- ==== Proof.OutValue.lean ====
module

public import Idealize.ShloMosaic.Lib.Pipeline.ValueKit
public import Idealize.ShloMosaic.Lib.Pointwise
public import proofs.«01_k».proof.Proof.Run.Region3
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.KernelIdeal.Run Cert.KernelIdeal.Spec

/-- The block of the residual and of the two products each grid point adds. -/
theorem idx : ∀ t : Fin cfg3.N, win3_0.index t = ![t.val % 16, 0]
    ∧ win3_1.index t = ![t.val % 16, 0]
    ∧ win3_2.index t = ![0, t.val / 16]
    ∧ win3_3.index t = ![1, t.val / 16]
    ∧ win3_4.index t = ![0, t.val % 16, 0]
    ∧ win3_5.index t = ![0, t.val % 16, 0]
    ∧ win3_6.index t = ![t.val % 16, t.val / 16]
    ∧ win3_7.index t = ![t.val % 16, t.val / 16] :=
  (by decide +kernel : ∀ t : Fin grid3.N, _)

/-- A block's product scaled by its rows' inverse root mean squares, at a place. -/
theorem left_apply (x : FVec Ideal S512x2048 .bf16) (w : FVec Ideal S2048x1024 .bf16) (s : FVec Ideal S4x512x128 .f32) (j : S512x1024.Idx) :
    k3_pay2 (F := Ideal) x w s j = (∑ k : Fin 2048, x (ix2 (j 0) k) * w (ix2 k (j 1)))
      * Ideal.rsqrt (Ideal.div (∑ l : Fin 128, ∑ q : Fin 4, s (ix3 q (j 0) l)) (Ideal.ofBits .f32 0x45000000#32) + Ideal.ofBits .f32 0x3727C5AC#32) := by
  pointwise [k3_pay2]

/-- The second block's product scaled likewise, at a place. -/
theorem right_apply (x : FVec Ideal S512x2048 .bf16) (w : FVec Ideal S2048x1024 .bf16) (s : FVec Ideal S4x512x128 .f32) (j : S512x1024.Idx) :
    k3_pay3 (F := Ideal) x w s j = (∑ k : Fin 2048, x (ix2 (j 0) k) * w (ix2 k (j 1)))
      * Ideal.rsqrt (Ideal.div (∑ l : Fin 128, ∑ q : Fin 4, s (ix3 q (j 0) l)) (Ideal.ofBits .f32 0x45000000#32) + Ideal.ofBits .f32 0x3727C5AC#32) := by
  pointwise [k3_pay3]

/-- The three terms of a block added, at a place. -/
theorem add_apply (p q r : FVec Ideal S512x1024 .f32) (j : S512x1024.Idx) : k3_pay1 (F := Ideal) p q r j = r j + p j + q j := by
  pointwise [k3_pay1]

variable (V : (c : Dev nD) → (b : Ref sig .tc) → Buf (Elt Ideal) ((c : Thread nD τ).loc b))

/-- What a grid point stores at a place of its block is `outProj` at the place of the array. -/
theorem point (c : Dev nD) (t : Fin cfg3.N) (y) :
    k3_pay1 (k3_pay2 (iblk3 V c 0 t) (iblk3 V c 2 t) (iblk3 V c 4 t)) (k3_pay3 (iblk3 V c 1 t) (iblk3 V c 3 t) (iblk3 V c 5 t)) (iblk3 V c 6 t) y
      = outProj (V c main_v9_0) (V c main_v16_0) (V c main_v18) (V c main_v9_1) (V c main_v16_1) (V c main_v0) (((cfg3.win 7).blk t).view.emb y) := by
  refine (add_apply _ _ _ _).trans ?_
  rw [left_apply, right_apply]
  unfold outProj invParts
  blk_point [iblk3, idx t]

/-- The array of results after the run is `outProj`. -/
theorem final (c : Dev nD) : (dat3 V c).arrAt 7 cfg3.N
    = outProj (V c main_v9_0) (V c main_v16_0) (V c main_v18) (V c main_v9_1) (V c main_v16_1) (V c main_v0) := by
  refine (dat3 V c).arrAt_eq_of_covers 7 _ (by decide +kernel) fun t _ y => ?_
  blk_simp
  rw [after3_7]; unfold out3_7; frame_out
  exact point V c t y

end Cert.KernelIdeal.Out

end
-- ==== Proof.Norm2Value.lean ====
module

public import Idealize.ShloMosaic.Lib.Pipeline.ValueKit
public import Idealize.ShloMosaic.Lib.Pointwise
public import proofs.«01_k».proof.Proof.Run.Region4
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Norm2

open Cert.KernelIdeal Cert.KernelIdeal.Gen Cert.KernelIdeal.Run Cert.KernelIdeal.Spec

/-- A block of the norm, at a place, from the block of rows and the gain. -/
theorem pay_apply (x : FVec Ideal S512x4096 .f32) (g : FVec Ideal S1x4096 .f32) (j : S512x4096.Idx) :
    k4_pay1 (F := Ideal) x g j = x j * Ideal.rsqrt (Ideal.div (∑ k : Fin 4096, x (ix2 (j 0) k) * x (ix2 (j 0) k)) (Ideal.ofBits .f32 0x45800000#32)
      + Ideal.ofBits .f32 0x3727C5AC#32) * g (ix2 0 (j 1)) := by
  pointwise [k4_pay1]

/-- The block of rows each grid point reads and writes. -/
theorem idx : ∀ t : Fin cfg4.N, win4_0.index t = ![t.val, 0] ∧ win4_1.index t = ![0, 0] ∧ win4_2.index t = ![t.val, 0] :=
  (by decide +kernel : ∀ t : Fin grid4.N, _)

variable (V : (c : Dev nD) → (b : Ref sig .tc) → Buf (Elt Ideal) ((c : Thread nD τ).loc b))

/-- What a grid point stores at a place of its block is the norm at the place of the array. -/
theorem point (c : Dev nD) (t : Fin cfg4.N) (y) : k4_pay1 (iblk4 V c 0 t) (iblk4 V c 1 t) y
    = rms (V c main_v19) (V c main_v21) (((cfg4.win 2).blk t).view.emb y) := by
  refine (pay_apply _ _ _).trans ?_
  unfold rms invRms
  blk_point [iblk4, idx t]

/-- The array of results after the run is the norm of the rows. -/
theorem final (c : Dev nD) : (dat4 V c).arrAt 2 cfg4.N = rms (V c main_v19) (V c main_v21) := by
  refine (dat4 V c).arrAt_eq_of_covers 2 _ (by decide +kernel) fun t _ y => ?_
  blk_simp
  rw [after4_2]; unfold out4_2; frame_out
  exact point V c t y

end Cert.KernelIdeal.Norm2

end
-- ==== Proof.UpValue.lean ====
module

public import Idealize.ShloMosaic.Lib.Pipeline.ValueKit
public import Idealize.ShloMosaic.Lib.Pointwise
public import proofs.«01_k».proof.Proof.Run.Region5
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Up

open Cert.KernelIdeal Cert.KernelIdeal.Gen Cert.KernelIdeal.Run Cert.KernelIdeal.Spec

/-- The block of rows and of columns each grid point reads and writes. -/
theorem idx : ∀ t : Fin cfg5.N, win5_0.index t = ![(grid5.coords t 1).val, 0]
    ∧ win5_1.index t = ![0, (grid5.coords t 0).val]
    ∧ win5_2.index t = ![(grid5.coords t 1).val, (grid5.coords t 0).val] :=
  (by decide +kernel : ∀ t : Fin grid5.N, _)

variable (V : (c : Dev nD) → (b : Ref sig .tc) → Buf (Elt Ideal) ((c : Thread nD τ).loc b))

/-- What a grid point stores at a place of its block is `up` at the place of the array. -/
theorem point (c : Dev nD) (t : Fin cfg5.N) (y) : k5_pay1 (iblk5 V c 0 t) (iblk5 V c 1 t) y
    = up (V c main_v22) (V c main_v24) (((cfg5.win 2).blk t).view.emb y) := by
  pointwise [k5_pay1, up]
  blk_point [iblk5, idx t]

/-- The array of results after the run is `up` of the arguments. -/
theorem final (c : Dev nD) : (dat5 V c).arrAt 2 cfg5.N
    = up (V c main_v22) (V c main_v24) := by
  refine (dat5 V c).arrAt_eq_of_covers 2 _ (by decide +kernel) fun t _ y => ?_
  blk_simp
  rw [after5_2]; unfold out5_2; frame_out
  exact point V c t y

end Cert.KernelIdeal.Up

end
-- ==== Proof.DownValue.lean ====
module

public import Idealize.ShloMosaic.Lib.Pipeline.ValueKit
public import Idealize.ShloMosaic.Lib.Pointwise
public import proofs.«01_k».proof.Proof.Run.Region6
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Down

open Cert.KernelIdeal Cert.KernelIdeal.Gen Cert.KernelIdeal.Run Cert.KernelIdeal.Spec

/-- The block of rows, of columns and of the contraction each grid point reads and writes. -/
theorem idx : ∀ t : Fin cfg6.N, win6_0.index t = ![t.val / 8 % 8, t.val % 8]
    ∧ win6_1.index t = ![t.val % 8, t.val / 64]
    ∧ win6_2.index t = ![t.val / 8 % 8, t.val / 64]
    ∧ win6_3.index t = ![t.val / 8 % 8, t.val / 64] :=
  (by decide +kernel : ∀ t : Fin grid6.N, _)

variable (V : (c : Dev nD) → (b : Ref sig .tc) → Buf (Elt Ideal) ((c : Thread nD τ).loc b))

/-- One point's product of a block of rows and a block of columns, at an index. -/
theorem pay_apply (acc : FVec Ideal S1024x1024 .f32) (x : FVec Ideal S1024x2048 .bf16) (w : FVec Ideal S2048x1024 .bf16)
    (j : S1024x1024.Idx) : k6_pay2 acc x w j = acc j + ∑ k : Fin 2048, x (ix2 (j 0) k) * w (ix2 k (j 1)) := by
  pointwise [k6_pay2]

/-- The residual's block is stored as read. -/
theorem start_apply (h : FVec Ideal S1024x1024 .f32) (j : S1024x1024.Idx) : k6_pay1 (F := Ideal) h j = h j := by
  pointwise [k6_pay1]

/-- The residual's block at the first point of a run of eight, nothing at the others. -/
def start (c : Dev nD) (t : Fin cfg6.N) (j : S1024x1024.Idx) : EReal :=
  if t.val % 8 = 0 then (show FVec Ideal S1024x1024 .f32 from iblk6 V c 2 t) j else 0

/-- What a point adds to the block it accumulates. -/
def part (c : Dev nD) (t : Fin cfg6.N) (j : S1024x1024.Idx) : EReal :=
  ∑ k : Fin 2048, (show FVec Ideal S1024x2048 .bf16 from iblk6 V c 0 t) (ix2 (j 0) k)
    * (show FVec Ideal S2048x1024 .bf16 from iblk6 V c 1 t) (ix2 k (j 1))

/-- After a run's last point its block holds the sum, over the run's points, of what each of them adds. -/
theorem outs_sum (c : Dev nD) (t : Fin cfg6.N) (ht : t.val % 8 = 8 - 1) (j : S1024x1024.Idx) :
    (show FVec Ideal S1024x1024 .f32 from outsAt6 V c t.val t.isLt) j
      = ∑ s : Fin 8, (start V c ⟨8 * (t.val / 8) + s.val, Pipeline.run_point_lt_of_flush t ht s⟩ j
        + part V c ⟨8 * (t.val / 8) + s.val, Pipeline.run_point_lt_of_flush t ht s⟩ j) := by
  refine (Pipeline.eq_sum_fin_of_reset_step_apply_of_flush (M := EReal) (fun n h => outsAt6 V c n h) 8 (fun _ => 0)
    (fun t j => start V c t j + part V c t j)
    (fun t h j => ?_) (fun t h j => ?_) t ht j).trans (zero_add _)
  · rw [outsAt6_A V c t h]; frame_out
    refine (pay_apply _ _ _ j).trans ?_
    rw [start, if_pos h, zero_add, start_apply]; rfl
  · rw [outsAt6_B V c t h]; frame_out
    refine (pay_apply _ _ _ j).trans ?_
    rw [start, if_neg h, zero_add]; rfl

/-- The array of results after the run is `down` of the arguments. -/
theorem final (c : Dev nD) : (dat6 V c).arrAt 3 cfg6.N
    = down (V c main_v25) (V c main_v27) (V c main_v19) := by
  refine (dat6 V c).arrAt_eq_of_covers 3 _ (by decide +kernel) fun t hf y => ?_
  have ht := (flush6_3 t).mp hf
  blk_simp
  rw [after6_3]
  refine (outs_sum V c t ht y).trans ?_
  rw [Finset.sum_add_distrib]
  unfold down
  refine congrArg₂ (· + ·) ?_ ?_
  · rw [Finset.sum_eq_single (0 : Fin 8)]
    · rw [start, if_pos (by dsimp only; omega)]
      blk_ext [iblk6, idx t, idx ⟨_, Pipeline.run_point_lt_of_flush t ht 0⟩]
    · intro s _ hs
      rw [start, if_neg (by have := s.isLt; have : s.val ≠ 0 := fun h => hs (Fin.ext h); dsimp only; omega)]
    · exact fun h => absurd (Finset.mem_univ _) h
  · unfold part
    refine Fin.sum_mul_add_congr fun s k hl => ?_
    pointwise
    blk_point [iblk6, idx t, idx ⟨_, Pipeline.run_point_lt_of_flush t ht s⟩]

end Cert.KernelIdeal.Down

end
-- ==== Proof.Norm3Value.lean ====
module

public import Idealize.ShloMosaic.Lib.Pipeline.ValueKit
public import Idealize.ShloMosaic.Lib.Pointwise
public import proofs.«01_k».proof.Proof.Run.Region7
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Norm3

open Cert.KernelIdeal Cert.KernelIdeal.Gen Cert.KernelIdeal.Run Cert.KernelIdeal.Spec

/-- A block of the norm, at a place, from the block of rows and the gain. -/
theorem pay_apply (x : FVec Ideal S512x4096 .f32) (g : FVec Ideal S1x4096 .f32) (j : S512x4096.Idx) :
    k7_pay1 (F := Ideal) x g j = x j * Ideal.rsqrt (Ideal.div (∑ k : Fin 4096, x (ix2 (j 0) k) * x (ix2 (j 0) k)) (Ideal.ofBits .f32 0x45800000#32)
      + Ideal.ofBits .f32 0x3727C5AC#32) * g (ix2 0 (j 1)) := by
  pointwise [k7_pay1]

/-- The block of rows each grid point reads and writes. -/
theorem idx : ∀ t : Fin cfg7.N, win7_0.index t = ![t.val, 0] ∧ win7_1.index t = ![0, 0] ∧ win7_2.index t = ![t.val, 0] :=
  (by decide +kernel : ∀ t : Fin grid7.N, _)

variable (V : (c : Dev nD) → (b : Ref sig .tc) → Buf (Elt Ideal) ((c : Thread nD τ).loc b))

/-- What a grid point stores at a place of its block is the norm at the place of the array. -/
theorem point (c : Dev nD) (t : Fin cfg7.N) (y) : k7_pay1 (iblk7 V c 0 t) (iblk7 V c 1 t) y
    = rms (V c main_v28) (V c main_v29) (((cfg7.win 2).blk t).view.emb y) := by
  refine (pay_apply _ _ _).trans ?_
  unfold rms invRms
  blk_point [iblk7, idx t]

/-- The array of results after the run is the norm of the rows. -/
theorem final (c : Dev nD) : (dat7 V c).arrAt 2 cfg7.N = rms (V c main_v28) (V c main_v29) := by
  refine (dat7 V c).arrAt_eq_of_covers 2 _ (by decide +kernel) fun t _ y => ?_
  blk_simp
  rw [after7_2]; unfold out7_2; frame_out
  exact point V c t y

end Cert.KernelIdeal.Norm3

end
-- ==== Proof.Chain.lean ====
module

public import proofs.«01_k».proof.Proof.Norm1Value
public import proofs.«01_k».proof.Proof.ConvValue
public import proofs.«01_k».proof.Proof.GmlpValue
public import proofs.«01_k».proof.Proof.OutValue
public import proofs.«01_k».proof.Proof.Norm2Value
public import proofs.«01_k».proof.Proof.UpValue
public import proofs.«01_k».proof.Proof.DownValue
public import proofs.«01_k».proof.Proof.Norm3Value
public import proofs.«01_k».proof.Proof.Run.Main

@[expose] public section

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Run Cert.KernelIdeal.Spec

/-! ## The operations between the calls -/

theorem rows_cast (x : FVec Ideal S4x2048x4096 .f32) : shapeCast S8192x4096 x shapeCasts_S4x2048x4096_S8192x4096 = rows x := by
  funext i; unfold rows; pointwise []

theorem wIn_cast (x : FVec Ideal S1x4096x10240 .f32) :
    truncf (F := Ideal) .bf16 (shapeCast S4096x10240 x shapeCasts_S1x4096x10240_S4096x10240) bitsLt_bf16_f32 = wIn x := by
  funext i; unfold wIn; pointwise []

theorem taps_cast (x : FVec Ideal S1x3x2048 .f32) : shapeCast S3x2048 x shapeCasts_S1x3x2048_S3x2048 = taps x := by
  funext i; unfold taps; pointwise []

theorem heads_cast (x : FVec Ideal S1x16x128x128 .f32) : shapeCast S16x128x128 x shapeCasts_S1x16x128x128_S16x128x128 = heads x := by
  funext i; unfold heads; pointwise []

theorem biases_cast (x : FVec Ideal S1x16x128 .f32) :
    broadcastInDim (α := Elt Ideal .f32) S16x128x128 ![0, 1, 2] bcast_S16x128x1_S16x128x128_0_1_2
      (broadcastInDim (α := Elt Ideal .f32) S16x128x1 ![0, 1] bcast_S16x128_S16x128x1_0_1
        (shapeCast S16x128 x shapeCasts_S1x16x128_S16x128)) = biases x := by
  funext i; unfold biases; pointwise []

theorem wOut_cast (x : FVec Ideal S1x4096x4096 .f32) :
    truncf (F := Ideal) .bf16 (shapeCast S4096x4096 x shapeCasts_S1x4096x4096_S4096x4096) bitsLt_bf16_f32 = wOut x := by
  funext i; unfold wOut; pointwise []

theorem wUp_cast (x : FVec Ideal S1x4096x16384 .f32) :
    truncf (F := Ideal) .bf16 (shapeCast S4096x16384 x shapeCasts_S1x4096x16384_S4096x16384) bitsLt_bf16_f32 = wUp x := by
  funext i; unfold wUp; pointwise []

theorem wDown_cast (x : FVec Ideal S1x16384x4096 .f32) :
    truncf (F := Ideal) .bf16 (shapeCast S16384x4096 x shapeCasts_S1x16384x4096_S16384x4096) bitsLt_bf16_f32 = wDown x := by
  funext i; unfold wDown; pointwise []

theorem gainRow_cast (x : FVec Ideal S4096 .f32) : shapeCast S1x4096 x shapeCasts_S4096_S1x4096 = gainRow x := by
  funext i; unfold gainRow; pointwise []

/-- A row reshaped to a vector and back is the row. -/
theorem row_cast (x : FVec Ideal S1x4096 .f32) :
    shapeCast S1x4096 (shapeCast S4096 x shapeCasts_S1x4096_S4096) shapeCasts_S4096_S1x4096 = x := by
  funext i; pointwise []; blk_ext []

/-- A row of 2048 reshaped to a vector and back is the row. -/
theorem row_cast' (x : FVec Ideal S1x2048 .f32) :
    shapeCast S1x2048 (shapeCast S2048 x shapeCasts_S1x2048_S2048) shapeCasts_S2048_S1x2048 = x := by
  funext i; pointwise []; blk_ext []

/-- The rows of the result as the positions of the four sequences. -/
theorem result_cast (x : FVec Ideal S8192x4096 .f32) :
    shapeCast S4x2048x4096 x shapeCasts_S8192x4096_S4x2048x4096 = fun i => x (ix2 (rowOf (i 0) (i 1)) (i 2)) := by
  funext i; pointwise []; try blk_ext []

section
variable (U : Valuation τ sig (Elt Ideal))

/-- What the operations leave in `main_v0`. -/
theorem at0_v0 : StableHlo.after hostOps0 U (Proc.devRef .tc main_v0) = rows (U (Proc.devRef .tc main_arg0)) := by
  refine Eq.trans (b := shapeCast (α := Elt Ideal .f32) S8192x4096 (U (Proc.devRef .tc main_arg0)) shapeCasts_S4x2048x4096_S8192x4096) ?_ (rows_cast _)
  after_results; try rfl

/-- What the operations leave in `main_v2`. -/
theorem at0_v2 : StableHlo.after hostOps0 U (Proc.devRef .tc main_v2) = wIn (U (Proc.devRef .tc main_arg2)) := by
  refine Eq.trans (b := truncf (F := Ideal) .bf16 (shapeCast (α := Elt Ideal .f32) S4096x10240 (U (Proc.devRef .tc main_arg2)) shapeCasts_S1x4096x10240_S4096x10240) bitsLt_bf16_f32) ?_ (wIn_cast _)
  after_results; try rfl

/-- What the operations leave in `main_v4`. -/
theorem at0_v4 : StableHlo.after hostOps0 U (Proc.devRef .tc main_v4) = U (Proc.devRef .tc main_arg1) := by
  refine Eq.trans (b := shapeCast (α := Elt Ideal .f32) S1x4096 (shapeCast (α := Elt Ideal .f32) S4096 (U (Proc.devRef .tc main_arg1)) shapeCasts_S1x4096_S4096) shapeCasts_S4096_S1x4096) ?_ (row_cast _)
  after_results; try rfl

/-- What the operations leave in `main_v6`. -/
theorem at1_v6 : StableHlo.after hostOps1 U (Proc.devRef .tc main_v6) = taps (U (Proc.devRef .tc main_arg3)) := by
  refine Eq.trans (b := shapeCast (α := Elt Ideal .f32) S3x2048 (U (Proc.devRef .tc main_arg3)) shapeCasts_S1x3x2048_S3x2048) ?_ (taps_cast _)
  after_results; try rfl

/-- What the operations leave in `main_v8`. -/
theorem at1_v8 : StableHlo.after hostOps1 U (Proc.devRef .tc main_v8) = U (Proc.devRef .tc main_arg6) := by
  refine Eq.trans (b := shapeCast (α := Elt Ideal .f32) S1x2048 (shapeCast (α := Elt Ideal .f32) S2048 (U (Proc.devRef .tc main_arg6)) shapeCasts_S1x2048_S2048) shapeCasts_S2048_S1x2048) ?_ (row_cast' _)
  after_results; try rfl

/-- What the operations leave in `main_v10`. -/
theorem at2_v10 : StableHlo.after hostOps2 U (Proc.devRef .tc main_v10) = heads (U (Proc.devRef .tc main_arg4)) := by
  refine Eq.trans (b := shapeCast (α := Elt Ideal .f32) S16x128x128 (U (Proc.devRef .tc main_arg4)) shapeCasts_S1x16x128x128_S16x128x128) ?_ (heads_cast _)
  after_results; try rfl

/-- What the operations leave in `main_v14`. -/
theorem at2_v14 : StableHlo.after hostOps2 U (Proc.devRef .tc main_v14) = biases (U (Proc.devRef .tc main_arg5)) := by
  refine Eq.trans ?_ (biases_cast (U (Proc.devRef .tc main_arg5)))
  after_results; try rfl

/-- What the operations leave in `main_v15`. -/
theorem at2_v15 : StableHlo.after hostOps2 U (Proc.devRef .tc main_v15) = U (Proc.devRef .tc main_arg7) := by
  refine Eq.trans (b := shapeCast (α := Elt Ideal .f32) S1x2048 (shapeCast (α := Elt Ideal .f32) S2048 (U (Proc.devRef .tc main_arg7)) shapeCasts_S1x2048_S2048) shapeCasts_S2048_S1x2048) ?_ (row_cast' _)
  after_results; try rfl

/-- What the operations leave in `main_v18`. -/
theorem at3_v18 : StableHlo.after hostOps3 U (Proc.devRef .tc main_v18) = wOut (U (Proc.devRef .tc main_arg8)) := by
  refine Eq.trans (b := truncf (F := Ideal) .bf16 (shapeCast (α := Elt Ideal .f32) S4096x4096 (U (Proc.devRef .tc main_arg8)) shapeCasts_S1x4096x4096_S4096x4096) bitsLt_bf16_f32) ?_ (wOut_cast _)
  after_results; try rfl

/-- What the operations leave in `main_v21`. -/
theorem at4_v21 : StableHlo.after hostOps4 U (Proc.devRef .tc main_v21) = U (Proc.devRef .tc main_arg9) := by
  refine Eq.trans (b := shapeCast (α := Elt Ideal .f32) S1x4096 (shapeCast (α := Elt Ideal .f32) S4096 (U (Proc.devRef .tc main_arg9)) shapeCasts_S1x4096_S4096) shapeCasts_S4096_S1x4096) ?_ (row_cast _)
  after_results; try rfl

/-- What the operations leave in `main_v24`. -/
theorem at5_v24 : StableHlo.after hostOps5 U (Proc.devRef .tc main_v24) = wUp (U (Proc.devRef .tc main_arg10)) := by
  refine Eq.trans (b := truncf (F := Ideal) .bf16 (shapeCast (α := Elt Ideal .f32) S4096x16384 (U (Proc.devRef .tc main_arg10)) shapeCasts_S1x4096x16384_S4096x16384) bitsLt_bf16_f32) ?_ (wUp_cast _)
  after_results; try rfl

/-- What the operations leave in `main_v27`. -/
theorem at6_v27 : StableHlo.after hostOps6 U (Proc.devRef .tc main_v27) = wDown (U (Proc.devRef .tc main_arg11)) := by
  refine Eq.trans (b := truncf (F := Ideal) .bf16 (shapeCast (α := Elt Ideal .f32) S16384x4096 (U (Proc.devRef .tc main_arg11)) shapeCasts_S1x16384x4096_S16384x4096) bitsLt_bf16_f32) ?_ (wDown_cast _)
  after_results; try rfl

/-- What the operations leave in `main_v29`. -/
theorem at7_v29 : StableHlo.after hostOps7 U (Proc.devRef .tc main_v29) = gainRow (U (Proc.devRef .tc main_arg12)) := by
  refine Eq.trans (b := shapeCast (α := Elt Ideal .f32) S1x4096 (U (Proc.devRef .tc main_arg12)) shapeCasts_S4096_S1x4096) ?_ (gainRow_cast _)
  after_results; try rfl

/-- What the operations leave in `main_v31`. -/
theorem at8_v31 : StableHlo.after hostOps8 U (Proc.devRef .tc main_v31) = fun i => (show FVec Ideal S8192x4096 .f32 from U (Proc.devRef .tc main_v30)) (ix2 (rowOf (i 0) (i 1)) (i 2)) := by
  refine Eq.trans (b := shapeCast (α := Elt Ideal .f32) S4x2048x4096 (U (Proc.devRef .tc main_v30)) shapeCasts_S8192x4096_S4x2048x4096) ?_ (result_cast _)
  after_results; try rfl

end

/-! ## The arrays, step by step

A step is a stretch of operations on arrays (odd steps) or a call (even steps). -/

variable (m : (ℓ : Loc nD τ sig) → Buf (Elt Ideal) ℓ) (ρ : Dev nD → PrngReg) (c : Dev nD)

/-- What `main_v0` holds after step 1. -/
theorem w1_v0 : W1 m ρ c (Proc.devRef .tc main_v0) = (rows (m ((c : Thread nD τ).loc main_arg0))) := by
  refine (at0_v0 (W0 m ρ c)).trans ?_
  rw [W0_args m ρ c main_arg0 (by decide)]

/-- What `main_v2` holds after step 1. -/
theorem w1_v2 : W1 m ρ c (Proc.devRef .tc main_v2) = wIn (m ((c : Thread nD τ).loc main_arg2)) := by
  refine (at0_v2 (W0 m ρ c)).trans ?_
  rw [W0_args m ρ c main_arg2 (by decide)]

/-- What `main_v4` holds after step 1. -/
theorem w1_v4 : W1 m ρ c (Proc.devRef .tc main_v4) = m ((c : Thread nD τ).loc main_arg1) := by
  refine (at0_v4 (W0 m ρ c)).trans ?_
  rw [W0_args m ρ c main_arg1 (by decide)]

/-- What `main_v5` holds after step 2. -/
theorem w2_v5 : W2 m ρ c (Proc.devRef .tc main_v5) = rms (rows (m ((c : Thread nD τ).loc main_arg0))) (m ((c : Thread nD τ).loc main_arg1)) := by
  refine (W2_arr m ρ c 2).trans ((Norm1.final (V1 m ρ) c).trans ?_)
  rw [show V1 m ρ c main_v0 = _ from w1_v0 m ρ c, show V1 m ρ c main_v4 = _ from w1_v4 m ρ c]; try rfl

/-- What `main_v0` holds after step 2. -/
theorem w2_v0 : W2 m ρ c (Proc.devRef .tc main_v0) = (rows (m ((c : Thread nD τ).loc main_arg0))) := by
  exact (W2_of m ρ c main_v0 (by decide)).trans (w1_v0 m ρ c)

/-- What `main_v2` holds after step 2. -/
theorem w2_v2 : W2 m ρ c (Proc.devRef .tc main_v2) = wIn (m ((c : Thread nD τ).loc main_arg2)) := by
  exact (W2_of m ρ c main_v2 (by decide)).trans (w1_v2 m ρ c)

/-- What `main_v0` holds after step 3. -/
theorem w3_v0 : W3 m ρ c (Proc.devRef .tc main_v0) = (rows (m ((c : Thread nD τ).loc main_arg0))) := by
  exact (W3_of m ρ c main_v0 (by decide)).trans (w2_v0 m ρ c)

/-- What `main_v2` holds after step 3. -/
theorem w3_v2 : W3 m ρ c (Proc.devRef .tc main_v2) = wIn (m ((c : Thread nD τ).loc main_arg2)) := by
  exact (W3_of m ρ c main_v2 (by decide)).trans (w2_v2 m ρ c)

/-- What `main_v5` holds after step 3. -/
theorem w3_v5 : W3 m ρ c (Proc.devRef .tc main_v5) = rms (rows (m ((c : Thread nD τ).loc main_arg0))) (m ((c : Thread nD τ).loc main_arg1)) := by
  exact (W3_of m ρ c main_v5 (by decide)).trans (w2_v5 m ρ c)

/-- What `main_v6` holds after step 3. -/
theorem w3_v6 : W3 m ρ c (Proc.devRef .tc main_v6) = taps (m ((c : Thread nD τ).loc main_arg3)) := by
  refine (at1_v6 (W2 m ρ c)).trans ?_
  rw [W2_args m ρ c main_arg3 (by decide)]

/-- What `main_v8` holds after step 3. -/
theorem w3_v8 : W3 m ρ c (Proc.devRef .tc main_v8) = m ((c : Thread nD τ).loc main_arg6) := by
  refine (at1_v8 (W2 m ρ c)).trans ?_
  rw [W2_args m ρ c main_arg6 (by decide)]

/-- What `main_v9_0` holds after step 4. -/
theorem w4_v9_0 : W4 m ρ c (Proc.devRef .tc main_v9_0) = gained (mixA (m ((c : Thread nD τ).loc main_arg0)) (m ((c : Thread nD τ).loc main_arg1)) (m ((c : Thread nD τ).loc main_arg2)) (m ((c : Thread nD τ).loc main_arg3))) (m ((c : Thread nD τ).loc main_arg6)) := by
  refine (W4_arr m ρ c 6).trans ((Conv.final6 (V3 m ρ) c).trans ?_)
  rw [show V3 m ρ c main_v5 = _ from w3_v5 m ρ c, show V3 m ρ c main_v2 = _ from w3_v2 m ρ c, show V3 m ρ c main_v6 = _ from w3_v6 m ρ c, show V3 m ρ c main_v8 = _ from w3_v8 m ρ c]; try rfl

/-- What `main_v9_1` holds after step 4. -/
theorem w4_v9_1 : W4 m ρ c (Proc.devRef .tc main_v9_1) = squares (mixA (m ((c : Thread nD τ).loc main_arg0)) (m ((c : Thread nD τ).loc main_arg1)) (m ((c : Thread nD τ).loc main_arg2)) (m ((c : Thread nD τ).loc main_arg3))) := by
  refine (W4_arr m ρ c 7).trans ((Conv.final7 (V3 m ρ) c).trans ?_)
  rw [show V3 m ρ c main_v5 = _ from w3_v5 m ρ c, show V3 m ρ c main_v2 = _ from w3_v2 m ρ c, show V3 m ρ c main_v6 = _ from w3_v6 m ρ c]; try rfl

/-- What `main_v0` holds after step 4. -/
theorem w4_v0 : W4 m ρ c (Proc.devRef .tc main_v0) = (rows (m ((c : Thread nD τ).loc main_arg0))) := by
  exact (W4_of m ρ c main_v0 (by decide)).trans (w3_v0 m ρ c)

/-- What `main_v2` holds after step 4. -/
theorem w4_v2 : W4 m ρ c (Proc.devRef .tc main_v2) = wIn (m ((c : Thread nD τ).loc main_arg2)) := by
  exact (W4_of m ρ c main_v2 (by decide)).trans (w3_v2 m ρ c)

/-- What `main_v5` holds after step 4. -/
theorem w4_v5 : W4 m ρ c (Proc.devRef .tc main_v5) = rms (rows (m ((c : Thread nD τ).loc main_arg0))) (m ((c : Thread nD τ).loc main_arg1)) := by
  exact (W4_of m ρ c main_v5 (by decide)).trans (w3_v5 m ρ c)

/-- What `main_v0` holds after step 5. -/
theorem w5_v0 : W5 m ρ c (Proc.devRef .tc main_v0) = (rows (m ((c : Thread nD τ).loc main_arg0))) := by
  exact (W5_of m ρ c main_v0 (by decide)).trans (w4_v0 m ρ c)

/-- What `main_v2` holds after step 5. -/
theorem w5_v2 : W5 m ρ c (Proc.devRef .tc main_v2) = wIn (m ((c : Thread nD τ).loc main_arg2)) := by
  exact (W5_of m ρ c main_v2 (by decide)).trans (w4_v2 m ρ c)

/-- What `main_v5` holds after step 5. -/
theorem w5_v5 : W5 m ρ c (Proc.devRef .tc main_v5) = rms (rows (m ((c : Thread nD τ).loc main_arg0))) (m ((c : Thread nD τ).loc main_arg1)) := by
  exact (W5_of m ρ c main_v5 (by decide)).trans (w4_v5 m ρ c)

/-- What `main_v9_0` holds after step 5. -/
theorem w5_v9_0 : W5 m ρ c (Proc.devRef .tc main_v9_0) = gained (mixA (m ((c : Thread nD τ).loc main_arg0)) (m ((c : Thread nD τ).loc main_arg1)) (m ((c : Thread nD τ).loc main_arg2)) (m ((c : Thread nD τ).loc main_arg3))) (m ((c : Thread nD τ).loc main_arg6)) := by
  exact (W5_of m ρ c main_v9_0 (by decide)).trans (w4_v9_0 m ρ c)

/-- What `main_v9_1` holds after step 5. -/
theorem w5_v9_1 : W5 m ρ c (Proc.devRef .tc main_v9_1) = squares (mixA (m ((c : Thread nD τ).loc main_arg0)) (m ((c : Thread nD τ).loc main_arg1)) (m ((c : Thread nD τ).loc main_arg2)) (m ((c : Thread nD τ).loc main_arg3))) := by
  exact (W5_of m ρ c main_v9_1 (by decide)).trans (w4_v9_1 m ρ c)

/-- What `main_v10` holds after step 5. -/
theorem w5_v10 : W5 m ρ c (Proc.devRef .tc main_v10) = heads (m ((c : Thread nD τ).loc main_arg4)) := by
  refine (at2_v10 (W4 m ρ c)).trans ?_
  rw [W4_args m ρ c main_arg4 (by decide)]

/-- What `main_v14` holds after step 5. -/
theorem w5_v14 : W5 m ρ c (Proc.devRef .tc main_v14) = biases (m ((c : Thread nD τ).loc main_arg5)) := by
  refine (at2_v14 (W4 m ρ c)).trans ?_
  rw [W4_args m ρ c main_arg5 (by decide)]

/-- What `main_v15` holds after step 5. -/
theorem w5_v15 : W5 m ρ c (Proc.devRef .tc main_v15) = m ((c : Thread nD τ).loc main_arg7) := by
  refine (at2_v15 (W4 m ρ c)).trans ?_
  rw [W4_args m ρ c main_arg7 (by decide)]

/-- What `main_v16_0` holds after step 6. -/
theorem w6_v16_0 : W6 m ρ c (Proc.devRef .tc main_v16_0) = gained (mixB (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg7)) := by
  refine (W6_arr m ρ c 6).trans ((Gmlp.final6 (V5 m ρ) c).trans ?_)
  rw [show V5 m ρ c main_v5 = _ from w5_v5 m ρ c, show V5 m ρ c main_v2 = _ from w5_v2 m ρ c, show V5 m ρ c main_v10 = _ from w5_v10 m ρ c, show V5 m ρ c main_v14 = _ from w5_v14 m ρ c, show V5 m ρ c main_v15 = _ from w5_v15 m ρ c]; try rfl

/-- What `main_v16_1` holds after step 6. -/
theorem w6_v16_1 : W6 m ρ c (Proc.devRef .tc main_v16_1) = squares (mixB (m ((c : Thread nD τ).loc main_arg0)) (m ((c : Thread nD τ).loc main_arg1)) (m ((c : Thread nD τ).loc main_arg2)) (m ((c : Thread nD τ).loc main_arg4)) (m ((c : Thread nD τ).loc main_arg5))) := by
  refine (W6_arr m ρ c 7).trans ((Gmlp.final7 (V5 m ρ) c).trans ?_)
  rw [show V5 m ρ c main_v5 = _ from w5_v5 m ρ c, show V5 m ρ c main_v2 = _ from w5_v2 m ρ c, show V5 m ρ c main_v10 = _ from w5_v10 m ρ c, show V5 m ρ c main_v14 = _ from w5_v14 m ρ c]; try rfl

/-- What `main_v0` holds after step 6. -/
theorem w6_v0 : W6 m ρ c (Proc.devRef .tc main_v0) = (rows (m ((c : Thread nD τ).loc main_arg0))) := by
  exact (W6_of m ρ c main_v0 (by decide)).trans (w5_v0 m ρ c)

/-- What `main_v9_0` holds after step 6. -/
theorem w6_v9_0 : W6 m ρ c (Proc.devRef .tc main_v9_0) = gained (mixA (m ((c : Thread nD τ).loc main_arg0)) (m ((c : Thread nD τ).loc main_arg1)) (m ((c : Thread nD τ).loc main_arg2)) (m ((c : Thread nD τ).loc main_arg3))) (m ((c : Thread nD τ).loc main_arg6)) := by
  exact (W6_of m ρ c main_v9_0 (by decide)).trans (w5_v9_0 m ρ c)

/-- What `main_v9_1` holds after step 6. -/
theorem w6_v9_1 : W6 m ρ c (Proc.devRef .tc main_v9_1) = squares (mixA (m ((c : Thread nD τ).loc main_arg0)) (m ((c : Thread nD τ).loc main_arg1)) (m ((c : Thread nD τ).loc main_arg2)) (m ((c : Thread nD τ).loc main_arg3))) := by
  exact (W6_of m ρ c main_v9_1 (by decide)).trans (w5_v9_1 m ρ c)

/-- What `main_v0` holds after step 7. -/
theorem w7_v0 : W7 m ρ c (Proc.devRef .tc main_v0) = (rows (m ((c : Thread nD τ).loc main_arg0))) := by
  exact (W7_of m ρ c main_v0 (by decide)).trans (w6_v0 m ρ c)

/-- What `main_v9_0` holds after step 7. -/
theorem w7_v9_0 : W7 m ρ c (Proc.devRef .tc main_v9_0) = gained (mixA (m ((c : Thread nD τ).loc main_arg0)) (m ((c : Thread nD τ).loc main_arg1)) (m ((c : Thread nD τ).loc main_arg2)) (m ((c : Thread nD τ).loc main_arg3))) (m ((c : Thread nD τ).loc main_arg6)) := by
  exact (W7_of m ρ c main_v9_0 (by decide)).trans (w6_v9_0 m ρ c)

/-- What `main_v9_1` holds after step 7. -/
theorem w7_v9_1 : W7 m ρ c (Proc.devRef .tc main_v9_1) = squares (mixA (m ((c : Thread nD τ).loc main_arg0)) (m ((c : Thread nD τ).loc main_arg1)) (m ((c : Thread nD τ).loc main_arg2)) (m ((c : Thread nD τ).loc main_arg3))) := by
  exact (W7_of m ρ c main_v9_1 (by decide)).trans (w6_v9_1 m ρ c)

/-- What `main_v16_0` holds after step 7. -/
theorem w7_v16_0 : W7 m ρ c (Proc.devRef .tc main_v16_0) = gained (mixB (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg7)) := by
  exact (W7_of m ρ c main_v16_0 (by decide)).trans (w6_v16_0 m ρ c)

/-- What `main_v16_1` holds after step 7. -/
theorem w7_v16_1 : W7 m ρ c (Proc.devRef .tc main_v16_1) = squares (mixB (m ((c : Thread nD τ).loc main_arg0)) (m ((c : Thread nD τ).loc main_arg1)) (m ((c : Thread nD τ).loc main_arg2)) (m ((c : Thread nD τ).loc main_arg4)) (m ((c : Thread nD τ).loc main_arg5))) := by
  exact (W7_of m ρ c main_v16_1 (by decide)).trans (w6_v16_1 m ρ c)

/-- What `main_v18` holds after step 7. -/
theorem w7_v18 : W7 m ρ c (Proc.devRef .tc main_v18) = wOut (m ((c : Thread nD τ).loc main_arg8)) := by
  refine (at3_v18 (W6 m ρ c)).trans ?_
  rw [W6_args m ρ c main_arg8 (by decide)]

/-- What `main_v19` holds after step 8. -/
theorem w8_v19 : W8 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 7).trans ((Out.final (V7 m ρ) c).trans ?_)
  rw [show V7 m ρ c main_v9_0 = _ from w7_v9_0 m ρ c, show V7 m ρ c main_v16_0 = _ from w7_v16_0 m ρ c, show V7 m ρ c main_v18 = _ from w7_v18 m ρ c, show V7 m ρ c main_v9_1 = _ from w7_v9_1 m ρ c, show V7 m ρ c main_v16_1 = _ from w7_v16_1 m ρ c, show V7 m ρ c main_v0 = _ from w7_v0 m ρ c]; try rfl

/-- What `main_v19` holds after step 9. -/
theorem w9_v19 : W9 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W9_of m ρ c main_v19 (by decide)).trans (w8_v19 m ρ c)

/-- What `main_v21` holds after step 9. -/
theorem w9_v21 : W9 m ρ c (Proc.devRef .tc main_v21) = m ((c : Thread nD τ).loc main_arg9) := by
  refine (at4_v21 (W8 m ρ c)).trans ?_
  rw [W8_args m ρ c main_arg9 (by decide)]

/-- What `main_v22` holds after step 10. -/
theorem w10_v22 : W10 m ρ c (Proc.devRef .tc main_v22) = rms (afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (W10_arr m ρ c 2).trans ((Norm2.final (V9 m ρ) c).trans ?_)
  rw [show V9 m ρ c main_v19 = _ from w9_v19 m ρ c, show V9 m ρ c main_v21 = _ from w9_v21 m ρ c]; try rfl

/-- What `main_v19` holds after step 10. -/
theorem w10_v19 : W10 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W10_of m ρ c main_v19 (by decide)).trans (w9_v19 m ρ c)

/-- What `main_v19` holds after step 11. -/
theorem w11_v19 : W11 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W11_of m ρ c main_v19 (by decide)).trans (w10_v19 m ρ c)

/-- What `main_v22` holds after step 11. -/
theorem w11_v22 : W11 m ρ c (Proc.devRef .tc main_v22) = rms (afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  exact (W11_of m ρ c main_v22 (by decide)).trans (w10_v22 m ρ c)

/-- What `main_v24` holds after step 11. -/
theorem w11_v24 : W11 m ρ c (Proc.devRef .tc main_v24) = wUp (m ((c : Thread nD τ).loc main_arg10)) := by
  refine (at5_v24 (W10 m ρ c)).trans ?_
  rw [W10_args m ρ c main_arg10 (by decide)]

/-- What `main_v25` holds after step 12. -/
theorem w12_v25 : W12 m ρ c (Proc.devRef .tc main_v25) = up (rms (afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))) (wUp (m ((c : Thread nD τ).loc main_arg10))) := by
  refine (W12_arr m ρ c 2).trans ((Up.final (V11 m ρ) c).trans ?_)
  rw [show V11 m ρ c main_v22 = _ from w11_v22 m ρ c, show V11 m ρ c main_v24 = _ from w11_v24 m ρ c]; try rfl

/-- What `main_v19` holds after step 12. -/
theorem w12_v19 : W12 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W12_of m ρ c main_v19 (by decide)).trans (w11_v19 m ρ c)

/-- What `main_v19` holds after step 13. -/
theorem w13_v19 : W13 m ρ c (Proc.devRef .tc main_v19) = afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W13_of m ρ c main_v19 (by decide)).trans (w12_v19 m ρ c)

/-- What `main_v25` holds after step 13. -/
theorem w13_v25 : W13 m ρ c (Proc.devRef .tc main_v25) = up (rms (afterMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))) (wUp (m ((c : Thread nD τ).loc main_arg10))) := by
  exact (W13_of m ρ c main_v25 (by decide)).trans (w12_v25 m ρ c)

/-- What `main_v27` holds after step 13. -/
theorem w13_v27 : W13 m ρ c (Proc.devRef .tc main_v27) = wDown (m ((c : Thread nD τ).loc main_arg11)) := by
  refine (at6_v27 (W12 m ρ c)).trans ?_
  rw [W12_args m ρ c main_arg11 (by decide)]

/-- What `main_v28` holds after step 14. -/
theorem w14_v28 : W14 m ρ c (Proc.devRef .tc main_v28) = afterMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ((Down.final (V13 m ρ) c).trans ?_)
  rw [show V13 m ρ c main_v25 = _ from w13_v25 m ρ c, show V13 m ρ c main_v27 = _ from w13_v27 m ρ c, show V13 m ρ c main_v19 = _ from w13_v19 m ρ c]; try rfl

/-- What `main_v28` holds after step 15. -/
theorem w15_v28 : W15 m ρ c (Proc.devRef .tc main_v28) = afterMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  exact (W15_of m ρ c main_v28 (by decide)).trans (w14_v28 m ρ c)

/-- What `main_v29` holds after step 15. -/
theorem w15_v29 : W15 m ρ c (Proc.devRef .tc main_v29) = gainRow (m ((c : Thread nD τ).loc main_arg12)) := by
  refine (at7_v29 (W14 m ρ c)).trans ?_
  rw [W14_args m ρ c main_arg12 (by decide)]

/-- What `main_v30` holds after step 16. -/
theorem w16_v30 : W16 m ρ c (Proc.devRef .tc main_v30) = rms (afterMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (gainRow (m ((c : Thread nD τ).loc main_arg12))) := by
  refine (W16_arr m ρ c 2).trans ((Norm3.final (V15 m ρ) c).trans ?_)
  rw [show V15 m ρ c main_v28 = _ from w15_v28 m ρ c, show V15 m ρ c main_v29 = _ from w15_v29 m ρ c]; try rfl

/-- The kernel's result is the layer of its arguments. -/
theorem result : W17 m ρ c (Proc.devRef .tc main_v31) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (at8_v31 (W16 m ρ c)).trans ?_
  rw [w16_v30 m ρ c]; rfl

end Cert.KernelIdeal.Chain

end
-- ==== Proof.ReferenceMix.lean ====
module

public import proofs.«01_k».proof.Proof.Spec
public import proofs.«01_k».proof.Proof.Gen.ReferenceIdeal.Read
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read
open Cert.KernelIdeal.Spec

variable (x0 : FVec Ideal S4x2048x4096 .f32) (x1 : FVec Ideal S1x4096 .f32) (x2 : FVec Ideal S1x4096x10240 .f32) (x3 : FVec Ideal S1x3x2048 .f32)
  (x4 : FVec Ideal S1x16x128x128 .f32) (x5 : FVec Ideal S1x16x128 .f32) (x6 x7 : FVec Ideal S1x2048 .f32) (x8 : FVec Ideal S1x4096x4096 .f32)
  (x9 : FVec Ideal S1x4096 .f32) (x10 : FVec Ideal S1x4096x16384 .f32) (x11 : FVec Ideal S1x16384x4096 .f32) (x12 : FVec Ideal S4096 .f32)

/-- The row of position `s` of sequence `b`. -/
theorem rows_at (x : FVec Ideal S4x2048x4096 .f32) (b : Fin 4) (s : Fin 2048) (k : Fin 4096) : rows x (ix2 (rowOf b s) k) = x (ix3 b s k) := by
  refine congrArg x (congrArg₂ (ix3 · · k) (Fin.ext ?_) (Fin.ext ?_))
  · show (2048 * b.val + s.val) / 2048 = b.val
    omega
  · show (2048 * b.val + s.val) % 2048 = s.val
    omega

/-- The reference's first norm. -/
theorem v13_eq (i : S4x2048x4096.Idx) : val_main_v13 (F := Ideal) x0 x1 i = rms (rows x0) x1 (ix2 (rowOf (i 0) (i 1)) (i 2)) := by
  have e (k : Fin 4096) : rows x0 (ix2 (rowOf (i 0) (i 1)) k) = x0 (ix3 (i 0) (i 1) k) := rows_at x0 _ _ _
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, invRms]
  simp only [e]
  try blk_point []

/-- The reference's input projection. -/
theorem v15_eq (i : S4x2048x10240.Idx) : val_main_v15 (F := Ideal) x0 x1 x2 i = proj (rms (rows x0) x1) (wIn x2) (rowOf (i 0) (i 1)) (i 2) := by
  rw [val_main_v15_apply]
  refine Finset.sum_congr rfl fun k _ => congrArg₂ (· * ·) ((v13_eq x0 x1 _).trans ?_) ?_
  · rfl
  · pointwise [val_main_v14, wIn]
    try blk_point []

/-- The reference's gated input. -/
theorem v22_eq (i : S4x2048x2048.Idx) : val_main_v22 (F := Ideal) x0 x1 x2 i = gated (rms (rows x0) x1) (wIn x2) (rowOf (i 0) (i 1)) (i 2) := by
  rw [val_main_v22_apply, val_main_v17_apply, val_main_v18_apply, v15_eq, v15_eq]
  rfl

/-- The reference's first group of projected columns. -/
theorem v16_eq (i : S4x2048x2048.Idx) : val_main_v16 (F := Ideal) x0 x1 x2 i = proj (rms (rows x0) x1) (wIn x2) (rowOf (i 0) (i 1)) ⟨(i 2).val, by idx_bounds i; omega⟩ := by
  rw [val_main_v16_apply, v15_eq]
  rfl

/-- The padded gated input: two zeros, then the sequence. -/
theorem padded (i : S4x2050x2048.Idx) : val_main_v23 (F := Ideal) x0 x1 x2 i
    = if h : 2 ≤ (i 1).val then gated (rms (rows x0) x1) (wIn x2) (rowOf (i 0) ⟨(i 1).val - 2, by idx_bounds i; omega⟩) (i 2) else 0 := by
  unfold val_main_v23
  split
  · next h =>
    refine (pad_apply_of_inside _ _ _ _ _ _ _ i (ix3 (i 0) ⟨(i 1).val - 2, by idx_bounds i; omega⟩ (i 2) : S4x2048x2048.Idx) fun a => ?_).trans
      (v22_eq x0 x1 x2 _)
    match a with
    | ⟨0, _⟩ => show (i 0).val = 0 + (i 0).val * 1; omega
    | ⟨1, _⟩ => show (i 1).val = 2 + ((i 1).val - 2) * 1; omega
    | ⟨2, _⟩ => show (i 2).val = 0 + (i 2).val * 1; omega
  · next h =>
    refine (pad_apply_of_not_inside _ _ _ _ _ _ _ i (1 : Fin 3) fun hc => h hc.1).trans ?_
    pointwise [val_main_call0_v0, val_main_c]
    exact sitofp_zero (φ := .f32)

/-- The padded gated input `2 - s` positions on is the gated input `s` positions earlier. -/
theorem past_eq (s : ℕ) (hs : s ≤ 2) (i : S4x2048x2048.Idx) (y : S4x2050x2048.Idx) (h0 : y 0 = i 0) (h1 : (y 1).val + s = (i 1).val + 2)
    (h2 : y 2 = i 2) : val_main_v23 (F := Ideal) x0 x1 x2 y = past (rms (rows x0) x1) (wIn x2) s (rowOf (i 0) (i 1)) (i 2) := by
  have b1 : (i 1).val < 2048 := (i 1).isLt
  have hm : (rowOf (i 0) (i 1)).val % 2048 = (i 1).val := by show (2048 * (i 0).val + (i 1).val) % 2048 = (i 1).val; omega
  rw [padded, h0, h2]
  unfold past
  rw [hm]
  by_cases h : 2 ≤ (y 1).val
  · rw [dif_pos h, if_pos (by omega)]
    refine congrArg (fun r => gated (rms (rows x0) x1) (wIn x2) r (i 2)) (Fin.ext ?_)
    show 2048 * (i 0).val + ((y 1).val - 2) = 2048 * (i 0).val + (i 1).val - s
    omega
  · rw [dif_neg h, if_neg (by omega)]

/-- No positions earlier is the gated input itself. -/
theorem past_zero (r : Fin 8192) (n : Fin 2048) : past (rms (rows x0) x1) (wIn x2) 0 r n = gated (rms (rows x0) x1) (wIn x2) r n := if_pos (Nat.zero_le _)

/-- The reference's convolution mixer. -/
theorem v44_eq (i : S4x2048x2048.Idx) : val_main_v44 (F := Ideal) x0 x1 x2 x3 i = mixA x0 x1 x2 x3 (rowOf (i 0) (i 1)) (i 2) := by
  have e26 : val_main_v26 (F := Ideal) x0 x1 x2 i = past (rms (rows x0) x1) (wIn x2) 2 (rowOf (i 0) (i 1)) (i 2) := by
    rw [val_main_v26_apply]
    exact past_eq x0 x1 x2 2 (le_refl 2) i _ (Fin.ext rfl) rfl (Fin.ext rfl)
  have e32 : val_main_v32 (F := Ideal) x0 x1 x2 i = past (rms (rows x0) x1) (wIn x2) 1 (rowOf (i 0) (i 1)) (i 2) := by
    rw [val_main_v32_apply]
    refine past_eq x0 x1 x2 1 (by decide) i _ (Fin.ext rfl) ?_ (Fin.ext rfl)
    show 1 + (i 1).val + 1 = (i 1).val + 2
    omega
  have e39 : val_main_v39 (F := Ideal) x0 x1 x2 i = gated (rms (rows x0) x1) (wIn x2) (rowOf (i 0) (i 1)) (i 2) := by
    rw [val_main_v39_apply]
    refine Eq.trans (past_eq x0 x1 x2 0 (by decide) i _ (Fin.ext rfl) ?_ (Fin.ext rfl)) (past_zero x0 x1 x2 _ _)
    show 2 + (i 1).val + 0 = (i 1).val + 2
    omega
  pointwise [val_main_v44, val_main_v43, val_main_v42, val_main_v41, val_main_v40, val_main_v38, val_main_v37, val_main_v36, val_main_v35, val_main_v34, val_main_v33, val_main_v31, val_main_v30, val_main_v29, val_main_v28, val_main_v27, val_main_v25, val_main_v24, val_main_v21, mixA, conv, taps]
  rw [e26, e32, e39, v16_eq]
  exact congrArg (_ * ·) ((add_comm _ _).trans (add_assoc _ _ _).symm)

/-- The reference's gate. -/
theorem v57_eq (i : S4x2048x2048.Idx) : val_main_v57 (F := Ideal) x0 x1 x2 i = gate (rms (rows x0) x1) (wIn x2) (rowOf (i 0) (i 1)) (i 2) := by
  have e : val_main_v19 (F := Ideal) x0 x1 x2 i = proj (rms (rows x0) x1) (wIn x2) (rowOf (i 0) (i 1)) ⟨6144 + (i 2).val, by idx_bounds i; omega⟩ := by
    rw [val_main_v19_apply, v15_eq]; rfl
  pointwise [val_main_v57, val_main_v56, val_main_v55, val_main_v54, val_main_v53, val_main_v52, val_main_v51, val_main_v50, val_main_v49, val_main_v48, val_main_v47, val_main_v46, val_main_v45, val_main_cst_2, val_main_cst_3, val_main_cst_4, val_main_cst_5]
  rw [e, mul_assoc (proj _ _ _ _) (proj _ _ _ _) (proj _ _ _ _)]
  rfl

/-- The reference's value. -/
theorem v70_eq (i : S4x2048x2048.Idx) : val_main_v70 (F := Ideal) x0 x1 x2 i = value (rms (rows x0) x1) (wIn x2) (rowOf (i 0) (i 1)) (i 2) := by
  have e : val_main_v20 (F := Ideal) x0 x1 x2 i = proj (rms (rows x0) x1) (wIn x2) (rowOf (i 0) (i 1)) ⟨8192 + (i 2).val, by idx_bounds i; omega⟩ := by
    rw [val_main_v20_apply, v15_eq]; rfl
  pointwise [val_main_v70, val_main_v69, val_main_v68, val_main_v67, val_main_v66, val_main_v65, val_main_v64, val_main_v63, val_main_v62, val_main_v61, val_main_v60, val_main_v59, val_main_v58, val_main_cst_6, val_main_cst_7, val_main_cst_8, val_main_cst_9]
  rw [e, mul_assoc (proj _ _ _ _) (proj _ _ _ _) (proj _ _ _ _)]
  rfl

/-- The reference's causal weights. -/
theorem v76_eq (i : S16x128x128.Idx) : val_main_v76 (F := Ideal) x4 i = if (i 2).val ≤ (i 1).val then x4 (ix4 0 (i 0) (i 1) (i 2)) else 0 := by
  pointwise [val_main_v76, val_main_call2_v0, val_main_call2_v1, val_main_cst_11, val_main_v75, val_main_v74, val_main_call1_v5, val_main_call1_c_0,
    val_main_call1_v4, val_main_call1_v3, val_main_call1_v2, val_main_call1_v1, val_main_call1_c, val_main_call1_v0, val_main_v73, val_main_c_10, val_main_v71]
  have h1 : (i 1).val < 128 := (i 1).isLt
  have h2 : (i 2).val < 128 := (i 2).isLt
  rw [show ∀ a : BitVec 32, IntOp.addi a 0#32 = a from BitVec.add_zero, WordCmp.cmpi_sge_ofNat (by omega) (by omega)]
  by_cases h : (i 2).val ≤ (i 1).val <;> simp [h, Scalar.select]

/-- The reference's gated MLP mixer. -/
theorem v85_eq (i : S4x2048x2048.Idx) : val_main_v85 (F := Ideal) x0 x1 x2 x4 x5 i = mixB x0 x1 x2 x4 x5 (rowOf (i 0) (i 1)) (i 2) := by
  pointwise [val_main_v85, val_main_v84, val_main_v83, val_main_v82, val_main_v81, val_main_v80, val_main_v79, val_main_v78, val_main_v77, val_main_v72, mixB, gmlp, heads, biases]
  have b0 : (i 0).val < 4 := (i 0).isLt
  have b1 : (i 1).val < 2048 := (i 1).isLt
  have b2 : (i 2).val < 2048 := (i 2).isLt
  refine congrArg₂ (· * ·) (v57_eq x0 x1 x2 i) (congrArg₂ (· + ·) (Finset.sum_congr rfl fun s _ => ?_)
    (congrArg x5 (congrArg (ix3 (0 : Fin 1) (⟨(i 2).val / 128, by omega⟩ : Fin 16)) (Fin.ext ?_))))
  · refine (congrArg₂ (· * ·) (v70_eq x0 x1 x2 _) (v76_eq x4 _)).trans ?_
    show value (rms (rows x0) x1) (wIn x2) (rowOf (i 0) ⟨(i 1).val / 128 * 128 + s.val, by omega⟩) (i 2)
        * (if s.val ≤ (i 1).val % 128 then x4 (ix4 0 ⟨(i 2).val / 128, by omega⟩ ⟨(i 1).val % 128, by omega⟩ s) else 0) = _
    have er : (2048 * (i 0).val + (i 1).val) % 128 = (i 1).val % 128 := by omega
    by_cases h : s.val ≤ (i 1).val % 128
    · rw [if_pos h, if_pos (by rw [er]; exact h), mul_comm]
      refine congrArg₂ (· * ·) (congrArg x4 (congrArg (ix4 (0 : Fin 1) (⟨(i 2).val / 128, by omega⟩ : Fin 16) · s) (Fin.ext er.symm)))
        (congrArg (value (rms (rows x0) x1) (wIn x2) · (i 2)) (Fin.ext ?_))
      show 2048 * (i 0).val + ((i 1).val / 128 * 128 + s.val) = 128 * ((2048 * (i 0).val + (i 1).val) / 128) + s.val
      omega
    · rw [if_neg h, if_neg (by rw [er]; exact h), mul_zero]
  · show (i 1).val % 128 = (2048 * (i 0).val + (i 1).val) % 128
    omega

end Cert.ReferenceIdeal.RefValue

end
-- ==== Proof.ReferenceOut.lean ====
module

public import proofs.«01_k».proof.Proof.ReferenceMix
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The inverse root mean square can be moved out of a sum -/

namespace Cert.ReferenceIdeal.RefValue

/-- A square of an extended real is not negative. -/
theorem sq_nonneg (a : EReal) : 0 ≤ a * a := by
  induction a with
  | bot => rw [EReal.bot_mul_bot]; exact le_top
  | coe r => exact_mod_cast mul_self_nonneg r
  | top => rw [EReal.top_mul_top]; exact le_top

/-- The inverse root of a positive extended real is neither negative nor infinite. -/
theorem rsqrt_pos (y : EReal) (h : 0 < y) : 0 ≤ Ideal.rsqrt y ∧ Ideal.rsqrt y ≠ ⊤ := by
  induction y with
  | bot => exact absurd h (not_lt.2 bot_le)
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [e]
    exact ⟨by exact_mod_cast inv_nonneg.2 (Real.sqrt_nonneg r), EReal.coe_ne_top _⟩
  | top => exact ⟨le_refl _, EReal.zero_ne_top⟩

/-- The width of a mixer's norm. -/
theorem width_eq : Ideal.ofBits .f32 0x45000000#32 = ((2048 : ℝ) : EReal) := by
  simp [Ideal.ofBits, Ideal.ieee, -EReal.coe_mul]; norm_num

/-- The constant of the norms is positive. -/
theorem eps_pos : 0 < Ideal.ofBits .f32 0x3727C5AC#32 := by
  simp [Ideal.ofBits, Ideal.ieee, -EReal.coe_mul]

/-- The inverse root mean square from a sum of squares is neither negative nor infinite. -/
theorem inv_ok (s : EReal) (hs : 0 ≤ s) :
    0 ≤ Ideal.rsqrt (Ideal.div s (Ideal.ofBits .f32 0x45000000#32) + Ideal.ofBits .f32 0x3727C5AC#32)
      ∧ Ideal.rsqrt (Ideal.div s (Ideal.ofBits .f32 0x45000000#32) + Ideal.ofBits .f32 0x3727C5AC#32) ≠ ⊤ := by
  refine rsqrt_pos _ (lt_of_lt_of_le eps_pos (le_add_of_nonneg_left ?_))
  have h0 : ((2048 : ℝ) : EReal) ≠ 0 := by norm_num
  rw [width_eq, Ideal.div, if_neg h0]
  exact mul_nonneg hs (EReal.inv_nonneg_of_nonneg (by norm_num))

/-- A factor that is neither negative nor infinite moves out of a sum. -/
theorem sum_mul_ok {n : ℕ} (f : Fin n → EReal) (v : EReal) (h : 0 ≤ v) (h' : v ≠ ⊤) : ∑ k, f k * v = (∑ k, f k) * v := by
  have e (s : Finset (Fin n)) : ∑ k ∈ s, f k * v = (∑ k ∈ s, f k) * v := by
    induction s using Finset.induction_on with
    | empty => simp
    | insert a s ha ih => rw [Finset.sum_insert ha, Finset.sum_insert ha, ih, EReal.right_distrib_of_nonneg_of_ne_top h h']
  exact e Finset.univ

end Cert.ReferenceIdeal.RefValue

/-! ## The reference's output projection -/

namespace Cert.ReferenceIdeal.RefValue

open Cert.ReferenceIdeal Cert.ReferenceIdeal.Read
open Cert.KernelIdeal.Spec

variable (x0 : FVec Ideal S4x2048x4096 .f32) (x1 : FVec Ideal S1x4096 .f32) (x2 : FVec Ideal S1x4096x10240 .f32) (x3 : FVec Ideal S1x3x2048 .f32)
  (x4 : FVec Ideal S1x16x128x128 .f32) (x5 : FVec Ideal S1x16x128 .f32) (x6 x7 : FVec Ideal S1x2048 .f32) (x8 : FVec Ideal S1x4096x4096 .f32)
  (x9 : FVec Ideal S1x4096 .f32) (x10 : FVec Ideal S1x4096x16384 .f32) (x11 : FVec Ideal S1x16384x4096 .f32) (x12 : FVec Ideal S4096 .f32)

/-- The inverse root mean square of a row of 2048. -/
def invRow (M : Fin 8192 → Fin 2048 → EReal) (r : Fin 8192) : EReal :=
  Ideal.rsqrt (Ideal.div (∑ k : Fin 2048, M r k * M r k) (Ideal.ofBits .f32 0x45000000#32) + Ideal.ofBits .f32 0x3727C5AC#32)

theorem invRow_ok (M : Fin 8192 → Fin 2048 → EReal) (r : Fin 8192) : 0 ≤ invRow M r ∧ invRow M r ≠ ⊤ :=
  inv_ok _ (Finset.sum_nonneg fun k _ => sq_nonneg _)

/-- The partial sums of squares add up to the sum of squares. -/
theorem invParts_squares (M : Fin 8192 → Fin 2048 → EReal) (r : Fin 8192) : invParts (squares M) r = invRow M r := by
  have e : (∑ l : Fin 128, ∑ j : Fin 4, squares M (ix3 j r l)) = ∑ k : Fin 2048, M r k * M r k := by
    rw [Finset.sum_comm]
    have s1 (j : Fin 4) : (∑ l : Fin 128, squares M (ix3 j r l))
        = ∑ p : Fin 512, M r ⟨j.val * 512 + p.val, by omega⟩ * M r ⟨j.val * 512 + p.val, by omega⟩ := by
      show (∑ l : Fin 128, ∑ q : Fin 4, M r ⟨512 * j.val + 128 * q.val + l.val, by omega⟩ * M r ⟨512 * j.val + 128 * q.val + l.val, by omega⟩) = _
      rw [Finset.sum_comm]
      refine Fin.sum_mul_add_congr (S := 4) (n := 128)
        (f := fun p : Fin 512 => M r ⟨j.val * 512 + p.val, by omega⟩ * M r ⟨j.val * 512 + p.val, by omega⟩) fun q l hl => ?_
      have e : (⟨512 * j.val + 128 * q.val + l.val, by omega⟩ : Fin 2048) = ⟨j.val * 512 + (q.val * 128 + l.val), by omega⟩ := Fin.ext (by
        show 512 * j.val + 128 * q.val + l.val = j.val * 512 + (q.val * 128 + l.val); omega)
      exact congrArg (fun k => M r k * M r k) e
    refine (Finset.sum_congr rfl fun j _ => s1 j).trans ?_
    exact Fin.sum_mul_add_congr (S := 4) (n := 512) (f := fun k : Fin 2048 => M r k * M r k) fun j p hl => rfl
  unfold invParts invRow
  rw [e]

/-- The reference's norm of the convolution mixer. -/
theorem v99_eq (i : S4x2048x2048.Idx) : val_main_v99 (F := Ideal) x0 x1 x2 x3 x6 i
    = mixA x0 x1 x2 x3 (rowOf (i 0) (i 1)) (i 2) * invRow (mixA x0 x1 x2 x3) (rowOf (i 0) (i 1)) * x6 (ix2 0 (i 2)) := by
  have e (y : S4x2048x2048.Idx) := v44_eq x0 x1 x2 x3 y
  pointwise [val_main_v99, val_main_v98, val_main_v97, val_main_v96, val_main_v95, val_main_v94, val_main_v93, val_main_v92, val_main_v91, val_main_v90, val_main_v89, val_main_v88, val_main_v87, val_main_v86, val_main_cst_12, val_main_cst_13, val_main_cst_14, invRow]
  simp only [e]
  rfl

/-- The reference's norm of the gated MLP mixer. -/
theorem v113_eq (i : S4x2048x2048.Idx) : val_main_v113 (F := Ideal) x0 x1 x2 x4 x5 x7 i
    = mixB x0 x1 x2 x4 x5 (rowOf (i 0) (i 1)) (i 2) * invRow (mixB x0 x1 x2 x4 x5) (rowOf (i 0) (i 1)) * x7 (ix2 0 (i 2)) := by
  have e (y : S4x2048x2048.Idx) := v85_eq x0 x1 x2 x4 x5 y
  pointwise [val_main_v113, val_main_v112, val_main_v111, val_main_v110, val_main_v109, val_main_v108, val_main_v107, val_main_v106, val_main_v105, val_main_v104, val_main_v103, val_main_v102, val_main_v101, val_main_v100, val_main_cst_15, val_main_cst_16, val_main_cst_17, invRow]
  simp only [e]
  rfl

/-- The first 2048 of the reference's concatenated columns. -/
theorem v114_left (b : Fin 4) (s : Fin 2048) (k : Fin 2048) : val_main_v114 (F := Ideal) x0 x1 x2 x3 x4 x5 x6 x7 (ix3 b s ⟨k.val, by omega⟩)
    = val_main_v99 (F := Ideal) x0 x1 x2 x3 x6 (ix3 b s k) := by
  unfold val_main_v114
  refine concatenate_pair_apply_left (s₁ := S4x2048x2048) (s₂ := S4x2048x2048) (2 : Fin S4x2048x4096.rank) _ _ _ _ rfl (ix3 b s k) fun a => ?_
  match a with
  | ⟨0, _⟩ => rfl
  | ⟨1, _⟩ => rfl
  | ⟨2, _⟩ => rfl

/-- The last 2048 of the reference's concatenated columns. -/
theorem v114_right (b : Fin 4) (s : Fin 2048) (k : Fin 2048) : val_main_v114 (F := Ideal) x0 x1 x2 x3 x4 x5 x6 x7 (ix3 b s ⟨2048 + k.val, by omega⟩)
    = val_main_v113 (F := Ideal) x0 x1 x2 x4 x5 x7 (ix3 b s k) := by
  unfold val_main_v114
  refine concatenate_pair_apply_right (s₁ := S4x2048x2048) (s₂ := S4x2048x2048) (2 : Fin S4x2048x4096.rank) _ _ _ _ rfl rfl (ix3 b s k)
    (fun a ha => ?_) ?_
  · match a, ha with
    | ⟨0, _⟩, _ => rfl
    | ⟨1, _⟩, _ => rfl
    | ⟨2, _⟩, ha => exact absurd rfl ha
  · show k.val + 2048 = 2048 + k.val
    omega

/-- A sum over 4096 as the sums over its halves. -/
theorem sum_halves (f : Fin 4096 → EReal) : ∑ k, f k = (∑ k : Fin 2048, f ⟨k.val, by omega⟩) + ∑ k : Fin 2048, f ⟨2048 + k.val, by omega⟩ :=
  Fin.sum_univ_add (a := 2048) (b := 2048) f

/-- An index by its coordinates. -/
theorem at3 (i : S4x2048x4096.Idx) (k : Fin 4096) : lidx_main_v116 i k = ix3 (i 0) (i 1) k := funext fun a =>
  match a with
  | ⟨0, _⟩ => rfl
  | ⟨1, _⟩ => rfl
  | ⟨2, _⟩ => rfl

/-- The reference's residual after the mixers. -/
theorem v117_eq (i : S4x2048x4096.Idx) : val_main_v117 (F := Ideal) x0 x1 x2 x3 x4 x5 x6 x7 x8 i
    = afterMix x0 x1 x2 x3 x4 x5 x6 x7 x8 (ix2 (rowOf (i 0) (i 1)) (i 2)) := by
  have w (k : Fin 4096) : val_main_v115 (F := Ideal) x8 (ridx_main_v116 i k) = wOut x8 (ix2 k (i 2)) := by
    pointwise [val_main_v115, wOut]
    try blk_point []
  have ha : (∑ k : Fin 2048, val_main_v114 (F := Ideal) x0 x1 x2 x3 x4 x5 x6 x7 (lidx_main_v116 i ⟨k.val, by omega⟩)
        * val_main_v115 (F := Ideal) x8 (ridx_main_v116 i ⟨k.val, by omega⟩))
      = (∑ k : Fin 2048, gained (mixA x0 x1 x2 x3) x6 (ix2 (rowOf (i 0) (i 1)) k) * wOut x8 (ix2 ⟨k.val, by omega⟩ (i 2)))
        * invRow (mixA x0 x1 x2 x3) (rowOf (i 0) (i 1)) := by
    rw [← sum_mul_ok _ _ (invRow_ok _ _).1 (invRow_ok _ _).2]
    refine Finset.sum_congr rfl fun k _ => ?_
    rw [w]
    have e : val_main_v114 (F := Ideal) x0 x1 x2 x3 x4 x5 x6 x7 (lidx_main_v116 i ⟨k.val, by omega⟩)
        = mixA x0 x1 x2 x3 (rowOf (i 0) (i 1)) k * invRow (mixA x0 x1 x2 x3) (rowOf (i 0) (i 1)) * x6 (ix2 0 k) :=
      (congrArg (val_main_v114 (F := Ideal) x0 x1 x2 x3 x4 x5 x6 x7) (at3 i _)).trans
        ((v114_left x0 x1 x2 x3 x4 x5 x6 x7 (i 0) (i 1) k).trans (v99_eq x0 x1 x2 x3 x6 _))
    rw [e]
    show mixA x0 x1 x2 x3 (rowOf (i 0) (i 1)) k * invRow (mixA x0 x1 x2 x3) (rowOf (i 0) (i 1)) * x6 (ix2 0 k) * wOut x8 (ix2 ⟨k.val, by omega⟩ (i 2))
      = mixA x0 x1 x2 x3 (rowOf (i 0) (i 1)) k * x6 (ix2 0 k) * wOut x8 (ix2 ⟨k.val, by omega⟩ (i 2)) * invRow (mixA x0 x1 x2 x3) (rowOf (i 0) (i 1))
    rw [mul_right_comm (mixA x0 x1 x2 x3 _ _), mul_right_comm (_ * _)]
  have hb : (∑ k : Fin 2048, val_main_v114 (F := Ideal) x0 x1 x2 x3 x4 x5 x6 x7 (lidx_main_v116 i ⟨2048 + k.val, by omega⟩)
        * val_main_v115 (F := Ideal) x8 (ridx_main_v116 i ⟨2048 + k.val, by omega⟩))
      = (∑ k : Fin 2048, gained (mixB x0 x1 x2 x4 x5) x7 (ix2 (rowOf (i 0) (i 1)) k) * wOut x8 (ix2 ⟨2048 + k.val, by omega⟩ (i 2)))
        * invRow (mixB x0 x1 x2 x4 x5) (rowOf (i 0) (i 1)) := by
    rw [← sum_mul_ok _ _ (invRow_ok _ _).1 (invRow_ok _ _).2]
    refine Finset.sum_congr rfl fun k _ => ?_
    rw [w]
    have e : val_main_v114 (F := Ideal) x0 x1 x2 x3 x4 x5 x6 x7 (lidx_main_v116 i ⟨2048 + k.val, by omega⟩)
        = mixB x0 x1 x2 x4 x5 (rowOf (i 0) (i 1)) k * invRow (mixB x0 x1 x2 x4 x5) (rowOf (i 0) (i 1)) * x7 (ix2 0 k) :=
      (congrArg (val_main_v114 (F := Ideal) x0 x1 x2 x3 x4 x5 x6 x7) (at3 i _)).trans
        ((v114_right x0 x1 x2 x3 x4 x5 x6 x7 (i 0) (i 1) k).trans (v113_eq x0 x1 x2 x4 x5 x7 _))
    rw [e]
    show mixB x0 x1 x2 x4 x5 (rowOf (i 0) (i 1)) k * invRow (mixB x0 x1 x2 x4 x5) (rowOf (i 0) (i 1)) * x7 (ix2 0 k) * wOut x8 (ix2 ⟨2048 + k.val, by omega⟩ (i 2))
      = mixB x0 x1 x2 x4 x5 (rowOf (i 0) (i 1)) k * x7 (ix2 0 k) * wOut x8 (ix2 ⟨2048 + k.val, by omega⟩ (i 2)) * invRow (mixB x0 x1 x2 x4 x5) (rowOf (i 0) (i 1))
    rw [mul_right_comm (mixB x0 x1 x2 x4 x5 _ _), mul_right_comm (_ * _)]
  rw [val_main_v117_apply, val_main_v116_apply, sum_halves, ha, hb]
  rw [← invParts_squares, ← invParts_squares]
  have hx : x0 i = rows x0 (ix2 (rowOf (i 0) (i 1)) (i 2)) :=
    (congrArg x0 ((funext fun a => match a with
      | ⟨0, _⟩ => rfl
      | ⟨1, _⟩ => rfl
      | ⟨2, _⟩ => rfl : i = ix3 (i 0) (i 1) (i 2)))).trans (rows_at x0 (i 0) (i 1) (i 2)).symm
  exact (congrArg (· + (_ + _)) hx).trans (add_assoc _ _ _).symm

end Cert.ReferenceIdeal.RefValue

end
-- ==== Proof.ReferenceValue.lean ====
module

public import proofs.«01_k».proof.Proof.ReferenceOut
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read
open Cert.KernelIdeal.Spec

variable (x0 : FVec Ideal S4x2048x4096 .f32) (x1 : FVec Ideal S1x4096 .f32) (x2 : FVec Ideal S1x4096x10240 .f32) (x3 : FVec Ideal S1x3x2048 .f32)
  (x4 : FVec Ideal S1x16x128x128 .f32) (x5 : FVec Ideal S1x16x128 .f32) (x6 x7 : FVec Ideal S1x2048 .f32) (x8 : FVec Ideal S1x4096x4096 .f32)
  (x9 : FVec Ideal S1x4096 .f32) (x10 : FVec Ideal S1x4096x16384 .f32) (x11 : FVec Ideal S1x16384x4096 .f32) (x12 : FVec Ideal S4096 .f32)

/-- The reference's second norm. -/
theorem v131_eq (i : S4x2048x4096.Idx) : val_main_v131 (F := Ideal) x0 x1 x2 x3 x4 x5 x6 x7 x8 x9 i = rms (afterMix x0 x1 x2 x3 x4 x5 x6 x7 x8) x9 (ix2 (rowOf (i 0) (i 1)) (i 2)) := by
  have e (y : S4x2048x4096.Idx) := v117_eq x0 x1 x2 x3 x4 x5 x6 x7 x8 y
  pointwise [val_main_v131, val_main_v130, val_main_v129, val_main_v128, val_main_v127, val_main_v126, val_main_v125, val_main_v124, val_main_v123, val_main_v122, val_main_v121, val_main_v120, val_main_v119, val_main_v118, val_main_cst_18, val_main_cst_19, val_main_cst_20, rms, invRms]
  simp only [e]
  rfl

/-- The reference's first half of the MLP. -/
theorem v135_eq (i : S4x2048x16384.Idx) : val_main_v135 (F := Ideal) x0 x1 x2 x3 x4 x5 x6 x7 x8 x9 x10 i = up (rms (afterMix x0 x1 x2 x3 x4 x5 x6 x7 x8) x9) (wUp x10) (ix2 (rowOf (i 0) (i 1)) (i 2)) := by
  have e : val_main_v133 (F := Ideal) x0 x1 x2 x3 x4 x5 x6 x7 x8 x9 x10 i = ∑ k : Fin 4096, rms (afterMix x0 x1 x2 x3 x4 x5 x6 x7 x8) x9 (ix2 (rowOf (i 0) (i 1)) k) * wUp x10 (ix2 k (i 2)) := by
    rw [val_main_v133_apply]
    refine Finset.sum_congr rfl fun k _ => congrArg₂ (· * ·) ((v131_eq x0 x1 x2 x3 x4 x5 x6 x7 x8 x9 _).trans ?_) ?_
    · rfl
    · pointwise [val_main_v132, wUp]
      try blk_point []
  pointwise [val_main_v135, val_main_v134, val_main_call3_v0, val_main_call3_cst]
  rw [e]
  rfl

/-- The reference's residual after the MLP. -/
theorem v138_eq (i : S4x2048x4096.Idx) : val_main_v138 (F := Ideal) x0 x1 x2 x3 x4 x5 x6 x7 x8 x9 x10 x11 i = (afterMlp x0 x1 x2 x3 x4 x5 x6 x7 x8 x9 x10 x11) (ix2 (rowOf (i 0) (i 1)) (i 2)) := by
  have e : val_main_v137 (F := Ideal) x0 x1 x2 x3 x4 x5 x6 x7 x8 x9 x10 x11 i
      = ∑ k : Fin 16384, up (rms (afterMix x0 x1 x2 x3 x4 x5 x6 x7 x8) x9) (wUp x10) (ix2 (rowOf (i 0) (i 1)) k) * wDown x11 (ix2 k (i 2)) := by
    rw [val_main_v137_apply]
    refine Finset.sum_congr rfl fun k _ => congrArg₂ (· * ·) ((v135_eq x0 x1 x2 x3 x4 x5 x6 x7 x8 x9 x10 _).trans ?_) ?_
    · rfl
    · pointwise [val_main_v136, wDown]
      try blk_point []
  rw [val_main_v138_apply, v117_eq, e]
  rfl

/-- The reference's result is the layer of its arguments. -/
theorem result : val_main_v151 (F := Ideal) x0 x1 x2 x3 x4 x5 x6 x7 x8 x9 x10 x11 x12 = layer x0 x1 x2 x3 x4 x5 x6 x7 x8 x9 x10 x11 x12 := by
  funext i
  have e (y : S4x2048x4096.Idx) := v138_eq x0 x1 x2 x3 x4 x5 x6 x7 x8 x9 x10 x11 y
  pointwise [val_main_v151, val_main_v150, val_main_v149, val_main_v148, val_main_v147, val_main_v146, val_main_v145, val_main_v144, val_main_v143, val_main_v142, val_main_v141, val_main_v140, val_main_v139, val_main_cst_21, val_main_cst_22, val_main_cst_23, layer, rms, invRms, gainRow]
  simp only [e]
  rfl

end Cert.ReferenceIdeal.RefValue

end
-- ==== Proof.Claims.lean ====
module

public import proofs.«01_k».proof.Defs
public import proofs.«01_k».proof.Proof.Run.Main
public import proofs.«01_k».proof.Proof.RunBits.Main
public import proofs.«01_k».proof.Proof.Chain
public import proofs.«01_k».proof.Proof.Gen.ReferenceIdeal.Run
public import proofs.«01_k».proof.Proof.ReferenceValue
public import Idealize.ShloMosaic.Lib.Quiescent

@[expose] public section

set_option maxRecDepth 16384

noncomputable section

open Idealize.ShloMosaic Idealize.ShloMosaic.TcCoe Idealize.SL.Sem

namespace Cert.Proof

/-- The kernel, as printed, runs, keeps its arguments and leaves every semaphore at zero. -/
theorem frame_Kernel : Cert.quiescent_Kernel := fun m ρ _ => Cert.Kernel.Run.frame m ρ

/-- The kernel over the extended reals runs, keeps its arguments and leaves every semaphore at zero. -/
theorem frame_KernelIdeal : Cert.quiescent_KernelIdeal := fun m ρ _ => Cert.KernelIdeal.Run.frame m ρ

/-- The reference runs and keeps its arguments; it has no semaphore. -/
theorem frame_ReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized program is the kernel's own. -/
theorem preserves_kernel : Cert.preserves_Kernel_KernelIdeal := trivial

/-- Over the extended reals the kernel and the reference end with the same result, the layer of their arguments. -/
theorem algebraic_kernel : Cert.algebraic_KernelIdeal_ReferenceIdeal := by
  intro m ρ m' ρ' _ hag
  refine ⟨fun c => Cert.KernelIdeal.Spec.layer (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)),
    (θ_run Cert.KernelIdeal.defs _ _).mono (fun _ h c => ⟨(h.1 c).1.trans (Cert.KernelIdeal.Chain.result m ρ c), (h.1 c).2⟩)
      (Cert.KernelIdeal.Run.run (F := Ideal) m ρ),
    (θ_run Cert.ReferenceIdeal.defs _ _).mono (fun _ h c => ⟨(h c).1.trans ?_, (h c).2⟩) (Cert.ReferenceIdeal.Value.run (F := Ideal) m' ρ')⟩
  obtain ⟨h0, h1, h2, h3, h4, h5, h6, h7, h8, h9, h10, h11, h12⟩ := hag c
  refine (Cert.ReferenceIdeal.Read.val_main_v151_eq (F := Ideal) _).trans
    ((Cert.ReferenceIdeal.RefValue.result _ _ _ _ _ _ _ _ _ _ _ _ _).trans ?_)
  show Cert.KernelIdeal.Spec.layer (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = _
  rw [h0, h1, h2, h3, h4, h5, h6, h7, h8, h9, h10, h11, h12]

end Cert.Proof

end
-- ==== Proof.lean ====
/- Every claim of the certificate, from the modules under `Proof/`. -/
module

public import proofs.«01_k».proof.Defs
public import proofs.«01_k».proof.Proof.Claims
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  frame_Kernel, frame_KernelIdeal, frame_ReferenceIdeal, preserves_kernel, algebraic_kernel⟩

end Cert.Proof

end
